-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 2048]⟩ ⟨2, ![4096, 2048]⟩ (Layout.meshBlock [2, 2, 2] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048 : Shape := ⟨1, ![2048]⟩
abbrev S_ : Shape := ⟨0, ![]⟩
abbrev S1 : Shape := ⟨1, ![1]⟩
abbrev S2x2048 : Shape := ⟨2, ![2, 2048]⟩
abbrev S256x2048 : Shape := ⟨2, ![256, 2048]⟩
abbrev S7x2x2048 : Shape := ⟨3, ![7, 2, 2048]⟩
abbrev S7 : Shape := ⟨1, ![7]⟩
abbrev S256 : Shape := ⟨1, ![256]⟩
abbrev S256x1 : Shape := ⟨2, ![256, 1]⟩
abbrev S1x2048 : Shape := ⟨2, ![1, 2048]⟩
abbrev S1x2x2048 : Shape := ⟨3, ![1, 2, 2048]⟩

abbrev nBuf : Space → Nat
  | .hbm => 19
  | .vmem => 8
  | .smem => 1
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .bf16⟩
  | .local _ .vmem, ⟨7, _⟩ => ⟨S7x2x2048, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_c_2 : Ref sig .tc := ⟨.hbm, 11, rfl⟩
abbrev main_c_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev barrier0 : Sem sig := 0

abbrev nD : Nat := 8
abbrev τ : Topo := Topo.v7x

variable {F : FTy → Type} [FloatOps F]

abbrev grid0 : Pipeline.Grid := ⟨1, ![2], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_3 : BitVec 32 := 0#32
  let v12 : BitVec 1 := Scalar.cmpi .ne v11 c0_i32_3
  v12

def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v49 : BitVec 32 := Scalar.muli v2 c4_i32_21
  let v50 : BitVec 32 := Scalar.addi c0_i32_22 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v51 : BitVec 32 := Scalar.muli v5 c2_i32_23
  let v52 : BitVec 32 := Scalar.addi v50 v51
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_19 v8
  let c1_i32_24 : BitVec 32 := 1#32
  let v53 : BitVec 32 := Scalar.muli v48 c1_i32_24
  let v54 : BitVec 32 := Scalar.addi v52 v53
  v54.toNat
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v56 : BitVec 32 := Scalar.muli v2 c4_i32_27
  let v57 : BitVec 32 := Scalar.addi c0_i32_28 v56
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.subi c1_i32_25 v5
  let c2_i32_29 : BitVec 32 := 2#32
  let v58 : BitVec 32 := Scalar.muli v55 c2_i32_29
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v60 : BitVec 32 := Scalar.muli v8 c1_i32_30
  let v61 : BitVec 32 := Scalar.addi v59 v60
  v61.toNat
def k0_dev3 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v64 : BitVec 32 := Scalar.muli v2 c4_i32_34
  let v65 : BitVec 32 := Scalar.addi c0_i32_35 v64
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v62 : BitVec 32 := Scalar.subi c1_i32_31 v5
  let c2_i32_36 : BitVec 32 := 2#32
  let v66 : BitVec 32 := Scalar.muli v62 c2_i32_36
  let v67 : BitVec 32 := Scalar.addi v65 v66
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.subi c1_i32_32 v8
  let c1_i32_37 : BitVec 32 := 1#32
  let v68 : BitVec 32 := Scalar.muli v63 c1_i32_37
  let v69 : BitVec 32 := Scalar.addi v67 v68
  v69.toNat
def k0_dev4 (d0 : Dev nD) : Nat :=
  let c0_i32_41 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_38 v2
  let c4_i32_40 : BitVec 32 := 4#32
  let v71 : BitVec 32 := Scalar.muli v70 c4_i32_40
  let v72 : BitVec 32 := Scalar.addi c0_i32_41 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v73 : BitVec 32 := Scalar.muli v5 c2_i32_42
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v75 : BitVec 32 := Scalar.muli v8 c1_i32_43
  let v76 : BitVec 32 := Scalar.addi v74 v75
  v76.toNat
def k0_dev5 (d0 : Dev nD) : Nat :=
  let c0_i32_48 : BitVec 32 := 0#32
  let c1_i32_44 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_44 v2
  let c4_i32_47 : BitVec 32 := 4#32
  let v79 : BitVec 32 := Scalar.muli v77 c4_i32_47
  let v80 : BitVec 32 := Scalar.addi c0_i32_48 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v81 : BitVec 32 := Scalar.muli v5 c2_i32_49
  let v82 : BitVec 32 := Scalar.addi v80 v81
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_45 v8
  let c1_i32_50 : BitVec 32 := 1#32
  let v83 : BitVec 32 := Scalar.muli v78 c1_i32_50
  let v84 : BitVec 32 := Scalar.addi v82 v83
  v84.toNat
def k0_dev6 (d0 : Dev nD) : Nat :=
  let c0_i32_55 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v85 : BitVec 32 := Scalar.subi c1_i32_51 v2
  let c4_i32_54 : BitVec 32 := 4#32
  let v87 : BitVec 32 := Scalar.muli v85 c4_i32_54
  let v88 : BitVec 32 := Scalar.addi c0_i32_55 v87
  let c1_i32_52 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v86 : BitVec 32 := Scalar.subi c1_i32_52 v5
  let c2_i32_56 : BitVec 32 := 2#32
  let v89 : BitVec 32 := Scalar.muli v86 c2_i32_56
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v91 : BitVec 32 := Scalar.muli v8 c1_i32_57
  let v92 : BitVec 32 := Scalar.addi v90 v91
  v92.toNat
def k0_dev7 (d0 : Dev nD) : Nat :=
  let c0_i32_63 : BitVec 32 := 0#32
  let c1_i32_58 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v93 : BitVec 32 := Scalar.subi c1_i32_58 v2
  let c4_i32_62 : BitVec 32 := 4#32
  let v96 : BitVec 32 := Scalar.muli v93 c4_i32_62
  let v97 : BitVec 32 := Scalar.addi c0_i32_63 v96
  let c1_i32_59 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v94 : BitVec 32 := Scalar.subi c1_i32_59 v5
  let c2_i32_64 : BitVec 32 := 2#32
  let v98 : BitVec 32 := Scalar.muli v94 c2_i32_64
  let v99 : BitVec 32 := Scalar.addi v97 v98
  let c1_i32_60 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_60 v8
  let c1_i32_65 : BitVec 32 := 1#32
  let v100 : BitVec 32 := Scalar.muli v95 c1_i32_65
  let v101 : BitVec 32 := Scalar.addi v99 v100
  v101.toNat
def k0_cond4 (i : grid0.Coords) : BitVec 1 :=
  let arg0 : BitVec 32 := BitVec.ofNat 32 (i 0).val
  let c1_i32_17 : BitVec 32 := 1#32
  let v45 : BitVec 1 := Scalar.cmpi .eq arg0 c1_i32_17
  let v46 : BitVec 32 := Scalar.extui v45
  let c0_i32_18 : BitVec 32 := 0#32
  let v47 : BitVec 1 := Scalar.cmpi .ne v46 c0_i32_18
  v47

def k0_dev8 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v54 : BitVec 32 := Scalar.muli v2 c4_i32_27
  let v55 : BitVec 32 := Scalar.addi c0_i32_28 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v56 : BitVec 32 := Scalar.muli v5 c2_i32_29
  let v57 : BitVec 32 := Scalar.addi v55 v56
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v53 : BitVec 32 := Scalar.subi c1_i32_23 v8
  let c1_i32_30 : BitVec 32 := 1#32
  let v58 : BitVec 32 := Scalar.muli v53 c1_i32_30
  let v59 : BitVec 32 := Scalar.addi v57 v58
  v59.toNat
def k0_dev9 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v67 : BitVec 32 := Scalar.muli v2 c4_i32_37
  let v68 : BitVec 32 := Scalar.addi c0_i32_38 v67
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v66 : BitVec 32 := Scalar.subi c1_i32_33 v5
  let c2_i32_39 : BitVec 32 := 2#32
  let v69 : BitVec 32 := Scalar.muli v66 c2_i32_39
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v71 : BitVec 32 := Scalar.muli v8 c1_i32_40
  let v72 : BitVec 32 := Scalar.addi v70 v71
  v72.toNat
def k0_dev10 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v81 : BitVec 32 := Scalar.muli v2 c4_i32_48
  let v82 : BitVec 32 := Scalar.addi c0_i32_49 v81
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v79 : BitVec 32 := Scalar.subi c1_i32_43 v5
  let c2_i32_50 : BitVec 32 := 2#32
  let v83 : BitVec 32 := Scalar.muli v79 c2_i32_50
  let v84 : BitVec 32 := Scalar.addi v82 v83
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v80 : BitVec 32 := Scalar.subi c1_i32_44 v8
  let c1_i32_51 : BitVec 32 := 1#32
  let v85 : BitVec 32 := Scalar.muli v80 c1_i32_51
  let v86 : BitVec 32 := Scalar.addi v84 v85
  v86.toNat
def k0_dev11 (d0 : Dev nD) : Nat :=
  let c0_i32_58 : BitVec 32 := 0#32
  let c1_i32_54 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v93 : BitVec 32 := Scalar.subi c1_i32_54 v2
  let c4_i32_57 : BitVec 32 := 4#32
  let v94 : BitVec 32 := Scalar.muli v93 c4_i32_57
  let v95 : BitVec 32 := Scalar.addi c0_i32_58 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v96 : BitVec 32 := Scalar.muli v5 c2_i32_59
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v98 : BitVec 32 := Scalar.muli v8 c1_i32_60
  let v99 : BitVec 32 := Scalar.addi v97 v98
  v99.toNat
def k0_dev12 (d0 : Dev nD) : Nat :=
  let c0_i32_69 : BitVec 32 := 0#32
  let c1_i32_63 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v106 : BitVec 32 := Scalar.subi c1_i32_63 v2
  let c4_i32_68 : BitVec 32 := 4#32
  let v108 : BitVec 32 := Scalar.muli v106 c4_i32_68
  let v109 : BitVec 32 := Scalar.addi c0_i32_69 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v110 : BitVec 32 := Scalar.muli v5 c2_i32_70
  let v111 : BitVec 32 := Scalar.addi v109 v110
  let c1_i32_64 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v107 : BitVec 32 := Scalar.subi c1_i32_64 v8
  let c1_i32_71 : BitVec 32 := 1#32
  let v112 : BitVec 32 := Scalar.muli v107 c1_i32_71
  let v113 : BitVec 32 := Scalar.addi v111 v112
  v113.toNat
def k0_dev13 (d0 : Dev nD) : Nat :=
  let c0_i32_79 : BitVec 32 := 0#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v120 : BitVec 32 := Scalar.subi c1_i32_74 v2
  let c4_i32_78 : BitVec 32 := 4#32
  let v122 : BitVec 32 := Scalar.muli v120 c4_i32_78
  let v123 : BitVec 32 := Scalar.addi c0_i32_79 v122
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v121 : BitVec 32 := Scalar.subi c1_i32_75 v5
  let c2_i32_80 : BitVec 32 := 2#32
  let v124 : BitVec 32 := Scalar.muli v121 c2_i32_80
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v126 : BitVec 32 := Scalar.muli v8 c1_i32_81
  let v127 : BitVec 32 := Scalar.addi v125 v126
  v127.toNat
def k0_dev14 (d0 : Dev nD) : Nat :=
  let c0_i32_90 : BitVec 32 := 0#32
  let c1_i32_84 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_84 v2
  let c4_i32_89 : BitVec 32 := 4#32
  let v137 : BitVec 32 := Scalar.muli v134 c4_i32_89
  let v138 : BitVec 32 := Scalar.addi c0_i32_90 v137
  let c1_i32_85 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_85 v5
  let c2_i32_91 : BitVec 32 := 2#32
  let v139 : BitVec 32 := Scalar.muli v135 c2_i32_91
  let v140 : BitVec 32 := Scalar.addi v138 v139
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_86 v8
  let c1_i32_92 : BitVec 32 := 1#32
  let v141 : BitVec 32 := Scalar.muli v136 c1_i32_92
  let v142 : BitVec 32 := Scalar.addi v140 v141
  v142.toNat
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .i32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Protocol.lean ====
/-
# The exchange between the eight devices

Each device sends its two rows of sums to the seven others and adds what the seven others send it. This
module names the cells that the exchange waits on, the buffers it moves, and the plan of who pays which cell
with what: over any contents `S` (`S c` is what device `c` sends).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Ring
public import Idealize.ShloMosaic.Lib.Transfers
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.RowSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The launch's user algebra: the pipeline's rounds and, beside them, the exchange's, whose duties are numbered. -/
abbrev UU : Type := UR sig nD τ × URounds (GSem nD τ sig) (Fin 7)

local notation "𝕄" => MT nD τ sig Unit (Elt F) ℕ UU ℕ

abbrev EP : Emb (UR sig nD τ) (MT nD τ sig Unit (Elt F) ℕ UU ℕ) := embL
abbrev ER : Emb (URounds (GSem nD τ sig) (Fin 7)) (MT nD τ sig Unit (Elt F) ℕ UU ℕ) := embR

/-! ## The seven others -/

/-- The device that differs from `c` in the mesh coordinates that the bits of `s + 1` name. -/
def peer (s : Fin 7) (c : Dev nD) : Dev nD :=
  ⟨c.val ^^^ (s.val + 1), by revert s c; decide⟩

/-- Taken twice, `peer s` is the identity. -/
theorem peer_peer (s : Fin 7) (c : Dev nD) : peer s (peer s c) = c := by revert s c; decide

/-- `peer s` as a permutation of the devices. -/
def peerEquiv (s : Fin 7) : Dev nD ≃ Dev nD := ⟨peer s, peer s, peer_peer s, peer_peer s⟩

/-! ## Cells -/

/-- The barrier's semaphore. -/
abbrev barS : Sem sig := (0 : Fin 1)
/-- The semaphore that says that copy `s` has left. -/
def sendS (s : Fin 7) : DmaSem sig := ⟨5 + s.val, by have := s.isLt; show 5 + s.val < 19; omega⟩
/-- The semaphore that says that what `peer s` sent has arrived. -/
def recvS (s : Fin 7) : DmaSem sig := ⟨12 + s.val, by have := s.isLt; show 12 + s.val < 19; omega⟩

abbrev barCell (c : Dev nD) : GSem nD τ sig := ((c : Thread nD τ), .reg barS)
abbrev sendCell (c : Dev nD) (s : Fin 7) : GSem nD τ sig := ((c : Thread nD τ), .dma (sendS s))
abbrev recvCell (c : Dev nD) (s : Fin 7) : GSem nD τ sig := ((c : Thread nD τ), .dma (recvS s))

/-! ## Buffers -/

/-- The two rows that a device sends. -/
abbrev outM : Memref sig .tc .vmem S2x2048 .bf16 := Memref.whole cc0_scratch1
/-- Where the seven others' rows arrive. -/
abbrev inM : Memref sig .tc .vmem S7x2x2048 .bf16 := Memref.whole cc0_scratch2

theorem slot_inb (s : Fin 7) : ∀ a, (![s.val, 0, 0] : Fin 3 → Nat) a + S1x2x2048.size a ≤ S7x2x2048.size a := by
  revert s; decide

/-- The rectangle of slot `s` of the arrival buffer. -/
abbrev slotR (s : Fin 7) : Rect S7x2x2048 := Rect.unit (s := S7x2x2048) ![s.val, 0, 0] S1x2x2048.size (slot_inb s)

/-- Slot `s` of the arrival buffer, as two rows. -/
abbrev slotM (s : Fin 7) : Memref sig .tc .vmem S2x2048 .bf16 :=
  (inM.slice (slotR s) (fun _ => rfl)).squeeze S2x2048 squeezes_S1x2x2048_S2x2048

/-- The units that a copy of two rows adds to a semaphore. -/
def N : ℕ := (slotM 0).view.dmaCredit
theorem N_pos : 0 < N := View.dmaCredit_pos _ (by decide)

theorem amount_slot (s : Fin 7) (sm : DmaSem sig) : (slotM s).view.amount (.dma sm) = N := rfl

abbrev OutC : Type := (cc0_scratch1 : Ref sig .tc).ty.Contents (Elt F)
abbrev InC : Type := (cc0_scratch2 : Ref sig .tc).ty.Contents (Elt F)

/-- Share `s` of the seven that the sent rows are lent in. -/
abbrev share (s : Fin 7) : PosShare TreeShare := Transfers.dealOf fullShare (Finset.univ : Finset (Fin 7)) s

/-- Device `c`'s rows to send, at share `q`. -/
def outPts (c : Dev nD) (q : PosShare TreeShare) (f : OutC (F := F)) : sProp 𝕄 :=
  outM.view.loc (c : Thread nD τ) ↦[outM.view.set]{q} f

/-- Slot `s` of device `c`'s arrival buffer. -/
def slotPts (c : Dev nD) (s : Fin 7) (f : InC (F := F)) : sProp 𝕄 :=
  (slotM s).view.loc (c : Thread nD τ) ↦[(slotM s).view.set]{fullShare} f

omit [FloatOps F] in
instance outPts_storable (c : Dev nD) (q) (f) : BI.Storable (upEmb : UEmb _ 𝕄) (outPts (F := F) c q f) := by
  unfold outPts; infer_instance
omit [FloatOps F] in
instance slotPts_storable (c : Dev nD) (s) (f) : BI.Storable (upEmb : UEmb _ 𝕄) (slotPts (F := F) c s f) := by
  unfold slotPts; infer_instance

/-- What device `c`'s arrival buffer holds once all have sent: in slot `s`, the rows of `peer s c`. -/
def landed (S : Dev nD → OutC (F := F)) (c : Dev nD) : InC (F := F) :=
  fun i => S (peer (i 0) c) (fun a => i a.succ)

/-- The element of slot `s` at `j` is the arrival buffer's at `(s, j)`. -/
theorem slot_emb (s : Fin 7) (j : S2x2048.Idx) :
    (slotM s).view.emb j = (Fin.cons s j : S7x2x2048.Idx) := by
  show (slotR s).emb (Shape.reshapeEquiv _ j) = _
  rw [Shape.reshapeEquiv_eq_of_rowMajor (y := (Fin.cons (⟨0, Nat.one_pos⟩ : Fin 1) j : S1x2x2048.Idx))]
  · funext a
    refine Fin.ext ?_
    match a with
    | ⟨0, _⟩ => exact Nat.add_zero _
    | ⟨1, _⟩ => exact (Nat.zero_add _).trans (Nat.one_mul _)
    | ⟨2, _⟩ => exact (Nat.zero_add _).trans (Nat.one_mul _)
  · show (Shape.rowMajorPi (Matrix.vecCons 1 ![2, 2048]) (Fin.cons ⟨0, Nat.one_pos⟩ j)).val = (Shape.rowMajorPi ![2, 2048] j).val
    rw [Shape.rowMajorPi_succ_val]
    show 0 * _ + (Shape.rowMajorPi ![2, 2048] j).val = (Shape.rowMajorPi ![2, 2048] j).val
    simp

omit [FloatOps F] in
/-- Slot `s` of the arrival buffer reads as what `peer s c` sent. -/
theorem read_landed (S : Dev nD → OutC (F := F)) (c : Dev nD) (s : Fin 7) :
    (slotM s).view.read (Elt F) (landed S c) = S (peer s c) := by
  funext j
  show landed S c ((slotM s).view.emb j) = _
  rw [slot_emb]; rfl

omit [FloatOps F] in
/-- A copy of the rows `g` into slot `s` leaves the slot at any contents that read there as `g`. -/
theorem slot_written (c : Dev nD) (s : Fin 7) (f h : InC (F := F)) (g : OutC (F := F))
    (hg : (slotM s).view.read (Elt F) h = g) :
    slotPts c s ((slotM s).view.write (Elt F) f (outM.view.read (Elt F) g) Finset.univ) = slotPts c s h := by
  unfold slotPts
  refine pointsTo_congr fun i hi => ?_
  obtain ⟨j, -, rfl⟩ := Finset.mem_map.mp hi
  have h1 := congrFun (View.read_write_univ (v := (slotM s).view) (Val := Elt F) f (outM.view.read (Elt F) g)) j
  have h2 := congrFun hg j
  exact h1.trans h2.symm

end Cert.RowSums

end

end
-- ==== Proof.Plan.lean ====
/-
# Who pays which cell with what

The plan of the exchange as a schedule: a device's barrier cell is paid once by each of the seven others, who hand over
the slot that they lend it; its send cell `s` is paid by its own copy `s`, which hands back the lent share of the sent
rows; its receive cell `s` is paid by the copy of `peer s`, which hands over the filled slot. With it, what each device
owes, the order of the cells, and the state that a device carries.
-/
module

public import proofs.«01_k».proof.Proof.Protocol

@[expose] public section

noncomputable section

namespace Cert.RowSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (S : Dev nD → OutC (F := F))

/-! ## The schedule -/

/-- What `peer s c` hands `c` at the barrier: slot `s` of its arrival buffer, at any contents, and that its receive
    cell `s` is open. -/
def barPay (c : Dev nD) (s : Fin 7) : sProp 𝕄 :=
  iprop((∃ f, slotPts (peer s c) s f) ∗ reached ER (recvCell (peer s c) s) 0)
/-- What comes back to `c` when its copy `s` has left: share `s` of the sent rows. -/
def sendPay (c : Dev nD) (s : Fin 7) : sProp 𝕄 := outPts c (share s) (S c)
/-- What `c` gets when the rows of `peer s c` have arrived: slot `s`, filled. -/
def recvPay (c : Dev nD) (s : Fin 7) : sProp 𝕄 := slotPts c s (landed S c)

/-- The plan. -/
def plan : Rounds.Schedule (GSem nD τ sig) (Fin 7) 𝕄 where
  duties g r := if r = 0 ∧ g.1.2 = .tc then
      match g.2 with
      | .reg _ => Finset.univ
      | .dma i => if 5 ≤ i.val then {0} else ∅
    else ∅
  unitless _ := False
  amount g _ _ := match g.2 with
    | .reg _ => 1
    | .dma _ => N
  payload g _ d := match g.2 with
    | .reg _ => barPay g.1.1 d
    | .dma i =>
      if h : 12 ≤ i.val then recvPay S g.1.1 ⟨i.val - 12, by have h' : i.val < 19 := i.isLt; omega⟩
      else if h' : 5 ≤ i.val then sendPay S g.1.1 ⟨i.val - 5, by omega⟩
      else iprop(emp)
  amount_pos g _ _ _ := by
    rcases g with ⟨t, ⟨_⟩ | ⟨_⟩⟩
    · exact Nat.one_pos
    · exact N_pos

omit [FloatOps F] in
instance plan_payload_storable (g : GSem nD τ sig) (r : ℕ) (d : Fin 7) :
    BI.Storable (upEmb : UEmb _ 𝕄) ((plan S).payload g r d) := by
  rcases g with ⟨t, ⟨i⟩ | ⟨i⟩⟩
  · show BI.Storable upEmb (barPay t.1 d)
    unfold barPay; infer_instance
  · show BI.Storable upEmb (if h : 12 ≤ i.val then recvPay S t.1 ⟨i.val - 12, _⟩
      else if h' : 5 ≤ i.val then sendPay S t.1 ⟨i.val - 5, _⟩ else iprop(emp))
    unfold recvPay sendPay
    (repeat' split) <;> infer_instance

section Sched
variable (c : Dev nD) (s d : Fin 7)

omit [FloatOps F] in
theorem duties_bar : (plan S).duties (barCell c) 0 = Finset.univ := by
  dsimp only [plan]; exact if_pos ⟨rfl, rfl⟩
omit [FloatOps F] in
theorem duties_send : (plan S).duties (sendCell c s) 0 = {0} := by
  dsimp only [plan]; rw [if_pos ⟨rfl, rfl⟩]; exact if_pos (Nat.le_add_right _ _)
omit [FloatOps F] in
theorem duties_recv : (plan S).duties (recvCell c s) 0 = {0} := by
  dsimp only [plan]; rw [if_pos ⟨rfl, rfl⟩]; exact if_pos (show 5 ≤ 12 + s.val by omega)
omit [FloatOps F] in
theorem duties_later (g : GSem nD τ sig) : ∀ r, 1 ≤ r → (plan S).duties g r = ∅ :=
  fun r hr => by dsimp only [plan]; exact if_neg fun h => by omega

omit [FloatOps F] in
theorem amount_bar : (plan S).amount (barCell c) 0 d = 1 := rfl
omit [FloatOps F] in
theorem amount_send : (plan S).amount (sendCell c s) 0 d = N := rfl
omit [FloatOps F] in
theorem amount_recv : (plan S).amount (recvCell c s) 0 d = N := rfl

omit [FloatOps F] in
theorem expect_bar : (plan S).expect (barCell c) 0 = 7 := by
  unfold Schedule.expect Schedule.amountOf
  rw [duties_bar, Finset.sum_congr rfl fun d _ => amount_bar S c d]; rfl
omit [FloatOps F] in
theorem expect_send : (plan S).expect (sendCell c s) 0 = N := by
  unfold Schedule.expect Schedule.amountOf; rw [duties_send, Finset.sum_singleton, amount_send]
omit [FloatOps F] in
theorem expect_recv : (plan S).expect (recvCell c s) 0 = N := by
  unfold Schedule.expect Schedule.amountOf; rw [duties_recv, Finset.sum_singleton, amount_recv]

omit [FloatOps F] in
theorem payload_bar : (plan S).payload (barCell c) 0 d = barPay c d := rfl
omit [FloatOps F] in
theorem payload_send : (plan S).payload (sendCell c s) 0 d = sendPay S c s := by
  refine (dif_neg (show ¬12 ≤ 5 + s.val by omega)).trans ((dif_pos (show 5 ≤ 5 + s.val by omega)).trans ?_)
  exact congrArg (sendPay S c) (Fin.ext (Nat.add_sub_cancel_left 5 s.val))
omit [FloatOps F] in
theorem payload_recv : (plan S).payload (recvCell c s) 0 d = recvPay S c s := by
  refine (dif_pos (show 12 ≤ 12 + s.val by omega)).trans ?_
  exact congrArg (recvPay S c) (Fin.ext (Nat.add_sub_cancel_left 12 s.val))

omit [FloatOps F] in
theorem rest_bar : bigSep ((plan S).duties (barCell c) 0 \ ∅) (fun u => (plan S).payload (barCell c) 0 u)
    = bigSep Finset.univ fun u : Fin 7 => (barPay c u : sProp 𝕄) := by
  rw [Finset.sdiff_empty, duties_bar]; rfl
omit [FloatOps F] in
theorem rest_send : bigSep ((plan S).duties (sendCell c s) 0 \ ∅) (fun u => (plan S).payload (sendCell c s) 0 u) = sendPay S c s := by
  rw [Finset.sdiff_empty, duties_send, bigSep_singleton, payload_send]
omit [FloatOps F] in
theorem rest_recv : bigSep ((plan S).duties (recvCell c s) 0 \ ∅) (fun u => (plan S).payload (recvCell c s) 0 u) = recvPay S c s := by
  rw [Finset.sdiff_empty, duties_recv, bigSep_singleton, payload_recv]

end Sched

/-! ## What a device owes, and the order of the cells -/

/-- The copies still to issue: for each `s` of the list, the receive cell `s` of `peer s c`. -/
def copiesOwed (c : Dev nD) (l : List (Fin 7)) : CellTallies nD τ sig Unit :=
  (l.map fun s => tallyAt (recvCell (peer s c) s) () N).sum
/-- The signals still to send: for each `s` of the list, one unit to the barrier cell of `peer s c`. -/
def signalsOwed (c : Dev nD) (l : List (Fin 7)) : CellTallies nD τ sig Unit :=
  (l.map fun s => tallyAt (barCell (peer s c)) () 1).sum

/-- All seven, in order. -/
abbrev all7 : List (Fin 7) := [0, 1, 2, 3, 4, 5, 6]

/-- What a device owes at launch. -/
def owed₀ (c : Dev nD) : CellTallies nD τ sig Unit := copiesOwed c all7 + signalsOwed c all7

theorem copiesOwed_cons (c : Dev nD) (s : Fin 7) (l : List (Fin 7)) :
    copiesOwed c (s :: l) = copiesOwed c l + tallyAt (recvCell (peer s c) s) () N := by
  unfold copiesOwed; rw [List.map_cons, List.sum_cons, add_comm]
theorem signalsOwed_cons (c : Dev nD) (X : CellTallies nD τ sig Unit) (s : Fin 7) (l : List (Fin 7)) :
    X + signalsOwed c (s :: l) = X + signalsOwed c l + tallyAt (barCell (peer s c)) () 1 := by
  unfold signalsOwed; rw [List.map_cons, List.sum_cons, add_assoc, add_comm (tallyAt _ _ _)]

theorem copiesOwed_pos {c : Dev nD} {l : List (Fin 7)} {g : GSem nD τ sig} {u : Unit} (h : 0 < copiesOwed c l g u) :
    ∃ s, g = recvCell (peer s c) s := by
  induction l with
  | nil => exact absurd h (Nat.lt_irrefl 0)
  | cons s l ih =>
    rw [copiesOwed_cons, Pi.add_apply, Finsupp.add_apply, tallyAt_apply] at h
    by_cases hg : g = recvCell (peer s c) s ∧ u = ()
    · exact ⟨s, hg.1⟩
    · rw [if_neg hg] at h; exact ih h

theorem signalsOwed_pos {c : Dev nD} {l : List (Fin 7)} {g : GSem nD τ sig} {u : Unit} (h : 0 < signalsOwed c l g u) :
    ∃ s, g = barCell (peer s c) := by
  induction l with
  | nil => exact absurd h (Nat.lt_irrefl 0)
  | cons s l ih =>
    rw [show signalsOwed c (s :: l) = tallyAt (barCell (peer s c)) () 1 + signalsOwed c l from rfl, Pi.add_apply,
      Finsupp.add_apply, tallyAt_apply] at h
    by_cases hg : g = barCell (peer s c) ∧ u = ()
    · exact ⟨s, hg.1⟩
    · rw [if_neg hg, Nat.zero_add] at h; exact ih h

/-- Only TensorCores' cells have an index. -/
def L (g : GSem nD τ sig) : Finset Unit := if g.1.2 = .tc then {()} else ∅
/-- The order: the barrier's cells below the receive cells, everything else below both. -/
def lv (g : GSem nD τ sig) (_ : Unit) : ℕ := match g.2 with
  | .reg _ => 1
  | .dma i => if 12 ≤ i.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 7) (u : Unit) : lv (recvCell c s) u = 2 := if_pos (show 12 ≤ 12 + s.val by omega)

/-- What a device owes at launch lies above level zero. -/
theorem owed₀_above {c : Dev nD} {g : GSem nD τ sig} {u : Unit} (h : 0 < owed₀ c g u) : u ∈ L g ∧ 0 < lv g u := by
  unfold owed₀ at h
  rw [Pi.add_apply, Finsupp.add_apply] at h
  rcases Nat.add_pos_iff_pos_or_pos.mp h with h | h
  · obtain ⟨s, rfl⟩ := copiesOwed_pos h
    exact ⟨by rw [L_tc]; exact Finset.mem_singleton_self _, by rw [lv_recv]; decide⟩
  · obtain ⟨s, rfl⟩ := signalsOwed_pos h
    exact ⟨by rw [L_tc]; exact Finset.mem_singleton_self _, Nat.one_pos⟩

/-- So do the copies. -/
theorem copies_above {c : Dev nD} {l : List (Fin 7)} {g : GSem nD τ sig} {u : Unit} (h : 0 < copiesOwed c l g u) :
    u ∈ L g ∧ 1 < lv g u := by
  obtain ⟨s, rfl⟩ := copiesOwed_pos h
  exact ⟨by rw [L_tc]; exact Finset.mem_singleton_self _, by rw [lv_recv]; decide⟩

/-- A device that still owes its copies may wait at its barrier. -/
theorem mayWait_bar (c : Dev nD) (l : List (Fin 7)) :
    (levAts L lv : sProp 𝕄) ⊢ MayWait (c : Thread nD τ) (.reg barS) () (copiesOwed c l) :=
  MayOwe.of_cut (L := L) (lev := lv) 1
    (fun p hp => by rw [Finset.mem_singleton.mp hp, L_tc]; exact Finset.mem_singleton_self _)
    (fun g u hg => (copies_above hg).1)
    (fun p hp => by rw [Finset.mem_singleton.mp hp]; exact Nat.le_refl 1)
    (fun g u hg => (copies_above hg).2)

/-! ## The state that a device carries -/

/-- The barrier cells. -/
def barEmb : Dev nD ↪ GSem nD τ sig := ⟨fun c => barCell c, fun _ _ h => congrArg (fun g : GSem nD τ sig => g.1.1) h⟩
/-- A device's own cells: its seven send cells, then its seven receive cells. -/
def osem : Bool × Fin 7 → SemLoc sig := fun p => .dma (if p.1 then recvS p.2 else sendS p.2)
theorem osem_inj : Function.Injective osem := by decide
def ownEmb : Dev nD × (Bool × Fin 7) ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem bar_mem (c : Dev nD) : barCell c ∈ (barCells ∪ ownCells : Finset (GSem nD τ sig)) :=
  Finset.mem_union_left _ (Finset.mem_map_of_mem barEmb (Finset.mem_univ c))
theorem send_mem (c : Dev nD) (s : Fin 7) : sendCell c s ∈ (barCells ∪ ownCells : Finset (GSem nD τ sig)) :=
  Finset.mem_union_right _ (Finset.mem_map_of_mem ownEmb (Finset.mem_univ (c, (false, s))))
theorem recv_mem (c : Dev nD) (s : Fin 7) : recvCell c s ∈ (barCells ∪ ownCells : Finset (GSem nD τ sig)) :=
  Finset.mem_union_right _ (Finset.mem_map_of_mem ownEmb (Finset.mem_univ (c, (true, s))))

/-- What every device may consult: the invariant of every cell, at the names `K`, and that every barrier cell is open. -/
def records (K : GSem nD τ sig → ℕ) : sProp 𝕄 :=
  iprop((bigSep (barCells ∪ ownCells) fun g => cellInv ER (plan S) (K g) g) ∗ bigSep barCells fun g => reached ER g 0)

instance records_persistent (K : GSem nD τ sig → ℕ) : BI.Persistent (records S K) := by unfold records; infer_instance

omit [FloatOps F] in
theorem inv_at (K : GSem nD τ sig → ℕ) {g : GSem nD τ sig} (hg : g ∈ (barCells ∪ ownCells : Finset (GSem nD τ sig))) :
    records S K ⊢ cellInv ER (plan S) (K g) g := by
  unfold records
  iintro ⟨H, -⟩
  iapply (show _ ⊢ _ from bigSep_elim (Φ := fun g => (cellInv ER (plan S) (K g) g : sProp 𝕄)) hg); iexact H
omit [FloatOps F] in
theorem reached_at (K : GSem nD τ sig → ℕ) (c : Dev nD) : records S K ⊢ reached ER (barCell c) 0 := by
  unfold records
  iintro ⟨-, H⟩
  iapply (show _ ⊢ _ from bigSep_elim (Φ := fun g => (reached ER g 0 : sProp 𝕄)) (Finset.mem_map_of_mem barEmb (Finset.mem_univ c)))
  iexact H

/-- The tokens of device `c`'s signals. -/
def signalToks (c : Dev nD) : sProp 𝕄 := bigSep Finset.univ fun s : Fin 7 => dutyTok ER (barCell (peer s c)) 0 s
/-- The tokens of device `c`'s copies: of the leaving and of the arriving of each. -/
def copyToks (c : Dev nD) : sProp 𝕄 :=
  bigSep Finset.univ fun s : Fin 7 => iprop(dutyTok ER (sendCell c s) 0 0 ∗ dutyTok ER (recvCell (peer s c) s) 0 0)

/-- A `bigSep` over the seven, spelt out. -/
theorem bigSep_seven {M : Type} [URA M] (Φ : Fin 7 → sProp M) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide), bigSep_insert (by decide),
    bigSep_insert (by decide), bigSep_insert (by decide), bigSep_insert (by decide), bigSep_insert (by decide), bigSep_singleton]
  rfl

omit [FloatOps F] in
/-- A cell whose only round is over gives its counter back, at zero. -/
theorem cell_done (κ : ℕ) (g : GSem nD τ sig) :
    iprop(cellInv ER (plan S) κ g ∗ atPos ER g (0 + 1) ∅ 0) ⊢ (|={Set.univ}=> semVal g 0 : sProp 𝕄) :=
  Rounds.cell_close ER (plan S) (Set.mem_univ κ) id (duties_later S g)

/-! ## The arrival buffer slot by slot, the sent rows share by share -/

/-- The entries of slot `s`. -/
abbrev slotSet (s : Fin 7) : Finset S7x2x2048.Idx := (slotM s).view.set

theorem slotSet_eq (s : Fin 7) : slotSet s = (slotR s).set := by
  show (slotM s).view.set = _
  rw [View.set_reshape]
  show (inM.view.slice (slotR s)).set = _
  rw [View.set_slice]
  ext i
  exact ⟨fun h => by obtain ⟨j, hj, rfl⟩ := Finset.mem_map.mp h; exact hj, fun h => Finset.mem_map.mpr ⟨i, h, rfl⟩⟩

theorem slot_disjoint (s t : Fin 7) (h : s ≠ t) : Disjoint (slotSet s) (slotSet t) := by
  rw [slotSet_eq, slotSet_eq]
  exact Ring.lead_disjoint (NB := 7) (s := S7x2x2048) 0 1 (fun s => ![s.val, 0, 0]) S1x2x2048.size slot_inb
    (fun b => (Nat.one_mul _).symm) rfl s t h

theorem slot_cover : Finset.univ.biUnion slotSet = Finset.univ := by
  rw [funext slotSet_eq]
  exact Ring.lead_cover (NB := 7) (s := S7x2x2048) 0 1 (fun s => ![s.val, 0, 0]) S1x2x2048.size slot_inb
    (fun b => (Nat.one_mul _).symm) (by decide) rfl (by decide) rfl

omit [FloatOps F] in
/-- The arrival buffer, whole, is its seven slots. -/
theorem slots_eq (c : Dev nD) (f : InC (F := F)) :
    ((c : Thread nD τ).loc cc0_scratch2 ↦{fullShare} f : sProp 𝕄) = bigSep Finset.univ fun s : Fin 7 => slotPts c s f :=
  Ring.pointsTo_blocks (ℓ := (c : Thread nD τ).loc cc0_scratch2) slotSet slot_disjoint slot_cover f

omit [FloatOps F] in
/-- The sent rows, whole, are their seven shares. -/
theorem shares_eq (c : Dev nD) (f : OutC (F := F)) :
    ((c : Thread nD τ).loc cc0_scratch1 ↦{fullShare} f : sProp 𝕄) = bigSep Finset.univ fun s : Fin 7 => outPts c (share s) f := by
  have h := Transfers.pointsTo_deal (nD := nD) (τ := τ) (sig := sig) (Ix := Unit) (Val := Elt F) (Name := ℕ) (U := UU) (Lvl := ℕ)
    (ℓ := (c : Thread nD τ).loc cc0_scratch1) (S := Finset.univ) (f := f) (Finset.univ : Finset (Fin 7)) ⟨0, Finset.mem_univ _⟩ fullShare
  rw [h]
  refine bigSep_congr fun s _ => ?_
  unfold outPts
  rw [View.set_whole]

end Cert.RowSums

end

end
-- ==== Proof.Steps.lean ====
/-
# The exchange, one step at a time

Every signal, copy and wait of the kernel's body as a rule over the plan, stated once for all seven others.
-/
module

public import proofs.«01_k».proof.Proof.Plan

@[expose] public section

noncomputable section

namespace Cert.RowSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (S : Dev nD → OutC (F := F)) (K : GSem nD τ sig → ℕ)

/-- What device `c` owes, whatever it has waited for. -/
def owing (c : Dev nD) (O : CellTallies nD τ sig Unit) : sProp 𝕄 := iprop(∃ W, owes (c : Thread nD τ) O W)

variable {α : Type} {k : PUnit → Prog (TpuEff nD τ sig (Elt F) Λ₀ .tc) α} {Post : α → sProp (MT nD τ sig Unit (Elt F) ℕ UU ℕ)}

/-- The program `p` of device `c`, run to `Q`. -/
abbrev runs (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- The signal to `peer s c`: slot `s` of `c`'s arrival buffer is lent with it. -/
theorem signal_step (c n : Dev nD) (s : Fin 7) (hn : n = peer s c) {a : ℤ} (ha : a = ((1 : ℕ) : ℤ)) (X : CellTallies nD τ sig Unit) (l : List (Fin 7))
    (f : InC (F := F)) :
    iprop(records S K ∗ owing c (X + signalsOwed c (s :: l)) ∗ dutyTok ER (barCell (peer s c)) 0 s ∗ slotPts c s f
        ∗ reached ER (recvCell c s) 0)
      ⊢ iprop((owing c (X + signalsOwed c l) -∗ runs c (k ⟨⟩) Post)
          -∗ runs c (.op (.semSignal ((n, .tc) : Thread nD τ) barS a) k) Post) := by
  subst hn ha
  unfold owing
  iintro ⟨#Hrec, ⟨%W, HO⟩, Htok, Hslot, #Hr⟩ Hk
  iapply (Rounds.wp_signal 𝒱₀ ER (plan S) (c : Thread nD τ) none (dst := (peer s c : Thread nD τ)) (κ := K (barCell (peer s c)))
      (d := s) (r := 0) (by rw [duties_bar]; exact Finset.mem_univ _) (amount_bar S (peer s c) s) () (X + signalsOwed c l)
      (signalsOwed_cons c X s l)) $$ [HO Htok Hslot]
  · isplitr; · iapply (inv_at S K (bar_mem (peer s c))); iexact Hrec
    isplitl [HO]; · iexact HO
    isplitl [Htok]; · iexact Htok
    isplitl [Hslot]
    · rw [payload_bar]; unfold barPay; rw [peer_peer]
      isplitl [Hslot]; · iexists f; iexact Hslot
      iexact Hr
    · iapply (reached_at S K (peer s c)); iexact Hrec
  iintro HO
  iapply Hk
  iexists W; iexact HO

/-- The wait for the seven others at the barrier: each lends its slot. -/
theorem barrier_step (c : Dev nD) {a : ℤ} (ha : a = ((7 : ℕ) : ℤ)) (l : List (Fin 7)) :
    iprop(records S K ∗ levAts L lv ∗ cred (tallyAt (barCell c) () 7) ∗ owing c (copiesOwed c l) ∗ atPos ER (barCell c) 0 ∅ 0)
      ⊢ iprop(((owing c (copiesOwed c l) ∗ semVal (barCell c) 0 ∗ bigSep Finset.univ fun s : Fin 7 => (barPay c s : sProp 𝕄)) -∗ runs c (k ⟨⟩) Post)
          -∗ runs c (.op (.semWait barS a) k) Post) := by
  subst ha
  unfold owing
  iintro ⟨#Hrec, #Hlev, Hcr, ⟨%W, HO⟩, Hat⟩ Hk
  ihave #Hinv := (inv_at S K (bar_mem c)) $$ [Hrec]
  · iexact Hrec
  iapply (Rounds.wp_wait_rest_token 𝒱₀ ER (plan S) (c : Thread nD τ) none (κ := K (barCell c))
      (wpE_semWait_eq 𝒱₀ (c : Thread nD τ) none Set.univ) (Set.mem_univ _) () (O := copiesOwed c l) (W := W) (R := 0) (m := 0) (T := ∅)
      (by rw [expect_bar])) $$ [Hcr HO Hat]
  · isplitr; · iexact Hinv
    isplitl [Hcr]; · iexact Hcr
    isplitl [HO]; · iexact HO
    isplitr; · iapply (mayWait_bar c l); iexact Hlev
    iexact Hat
  iintro ⟨HO, Hat, -, Hpay⟩
  ihave Hp := (Entails.of_eq (rest_bar S c)) $$ Hpay
  imod (cell_done S (K (barCell c)) (barCell c)) $$ [Hat] with Hz
  · isplitr; · iexact Hinv
    iexact Hat
  iapply Hk
  isplitl [HO]; · iexists _; iexact HO
  isplitl [Hz] <;> iassumption

/-- The rule of copy `s`, with its resources apart. -/
theorem copy_rule (c n : Dev nD) (s : Fin 7) (hn : n = peer s c) (l : List (Fin 7))
    {hsc : (slotM s : Memref sig (Dev.tc n : Thread nD τ).2.kind .vmem S2x2048 .bf16).view.ref.isScScratch = false}
    {hsrc : (outM : Memref sig .tc .vmem S2x2048 .bf16).view.WordExact} {hdst : (slotM s).view.WordExact}
    {hsem : DmaTarget.Typed .vmem (.dma (recvS s)) (.remote (Dev.tc n : Thread nD τ) (slotM s : Memref sig .tc .vmem S2x2048 .bf16) (.dma (sendS s)) hsc)}
    (fn : InC (F := F)) (W : Waits sig Unit) :
    iprop(cellInv ER (plan S) (K (sendCell c s)) (sendCell c s) ∗ cellInv ER (plan S) (K (recvCell (peer s c) s)) (recvCell (peer s c) s)
        ∗ outPts c (share s) (S c) ∗ slotPts (peer s c) s fn ∗ owes (c : Thread nD τ) (copiesOwed c (s :: l)) W
        ∗ dutyTok ER (sendCell c s) 0 0 ∗ reached ER (sendCell c s) 0
        ∗ dutyTok ER (recvCell (peer s c) s) 0 0 ∗ reached ER (recvCell (peer s c) s) 0)
      ⊢ iprop(((cred (tallyAt (sendCell c s) () N) ∗ owes (c : Thread nD τ) (copiesOwed c l) W) -∗ runs c (k ⟨⟩) Post)
          -∗ runs c (.op (.enqueueDma outM (.remote (Dev.tc n : Thread nD τ) (slotM s) (.dma (sendS s)) hsc) (.dma (recvS s)) hsrc hdst hsem) k) Post) := by
  subst hn
  unfold outPts slotPts
  exact Rounds.wp_send_pointsTo (k := k) (Q := Post) (Es := Set.univ) (defs := defs₀ (F := F)) (Γ := []) 𝒱₀ ER (plan S) (c : Thread nD τ) none
    (c' := (peer s c : Thread nD τ)) (src := outM) (dst := slotM s) (sS := .dma (sendS s)) (sem := .dma (recvS s))
    (hsc := hsc) (hsrc := hsrc) (hdst := hdst) (hsem := hsem) (q := share s) (fs := S c) (κ₁ := K (sendCell c s)) (κ₂ := K (recvCell (peer s c) s))
    (r₁ := 0) (r₂ := 0) (d₁ := 0) (d₂ := 0) (fd := fn)
    (by rw [duties_send]; exact Finset.mem_singleton_self _) (by rw [duties_recv]; exact Finset.mem_singleton_self _)
    () () N (amount_slot s (recvS s)) (amount_send S c s 0) (amount_recv S (peer s c) s 0) (copiesOwed c l) (copiesOwed_cons c s l) (W := W)
    (by rw [payload_send]; exact BI.Entails.refl _)
    (by
      rw [payload_recv]; unfold recvPay
      exact Entails.of_eq (slot_written (peer s c) s fn (landed S (peer s c)) (S c) (by rw [read_landed, peer_peer])))

/-- Copy `s`, to slot `s` of `peer s c`: share `s` of the sent rows goes with it, and the slot that was lent. -/
theorem send_step (c n : Dev nD) (s : Fin 7) (hn : n = peer s c) (l : List (Fin 7))
    {hsc : (slotM s : Memref sig (Dev.tc n : Thread nD τ).2.kind .vmem S2x2048 .bf16).view.ref.isScScratch = false}
    {hsrc : (outM : Memref sig .tc .vmem S2x2048 .bf16).view.WordExact} {hdst : (slotM s).view.WordExact}
    {hsem : DmaTarget.Typed .vmem (.dma (recvS s)) (.remote (Dev.tc n : Thread nD τ) (slotM s : Memref sig .tc .vmem S2x2048 .bf16) (.dma (sendS s)) hsc)} :
    iprop(records S K ∗ outPts c (share s) (S c) ∗ barPay c s ∗ owing c (copiesOwed c (s :: l))
        ∗ (dutyTok ER (sendCell c s) 0 0 ∗ dutyTok ER (recvCell (peer s c) s) 0 0) ∗ reached ER (sendCell c s) 0)
      ⊢ iprop(((cred (tallyAt (sendCell c s) () N) ∗ owing c (copiesOwed c l)) -∗ runs c (k ⟨⟩) Post)
          -∗ runs c (.op (.enqueueDma outM (.remote (Dev.tc n : Thread nD τ) (slotM s) (.dma (sendS s)) hsc) (.dma (recvS s)) hsrc hdst hsem) k) Post) := by
  unfold owing barPay
  iintro ⟨#Hrec, Hsrc, ⟨⟨%fn, Hslot⟩, #HrP⟩, ⟨%W, HO⟩, ⟨HtS, HtR⟩, #HrS⟩ Hk
  iapply (copy_rule S K c n s hn l fn W) $$ [Hsrc Hslot HO HtS HtR]
  · isplitr; · iapply (inv_at S K (send_mem c s)); iexact Hrec
    isplitr; · iapply (inv_at S K (recv_mem (peer s c) s)); iexact Hrec
    isplitl [Hsrc]; · iexact Hsrc
    isplitl [Hslot]; · iexact Hslot
    isplitl [HO]; · iexact HO
    isplitl [HtS]; · iexact HtS
    isplitr; · iexact HrS
    isplitl [HtR]; · iexact HtR
    iexact HrP
  iintro ⟨Hcr, HO⟩
  iapply Hk
  isplitl [Hcr]; · iexact Hcr
  iexists W; iexact HO

/-- The wait for the rows of `peer s c`: slot `s` comes back filled. -/
theorem recv_step (c : Dev nD) (s : Fin 7) {sR : DmaSem sig} (hR : sR = recvS s)
    {src dst : Memref sig .tc .vmem S2x2048 .bf16} (hN : dst.view.dmaCredit = N)
    {hsrc : src.view.WordExact} {hdst : dst.view.WordExact} :
    iprop(records S K ∗ cred (tallyAt (recvCell c s) () N) ∗ owing c 0 ∗ atPos ER (recvCell c s) 0 ∅ 0)
      ⊢ iprop(((owing c 0 ∗ semVal (recvCell c s) 0 ∗ slotPts c s (landed S c)) -∗ runs c (k ⟨⟩) Post)
          -∗ runs c (.op (.waitDma2 sR src dst hsrc hdst) k) Post) := by
  subst hR
  unfold owing
  iintro ⟨#Hrec, Hcr, ⟨%W, HO⟩, Hat⟩ Hk
  ihave #Hinv := (inv_at S K (recv_mem c s)) $$ [Hrec]
  · iexact Hrec
  iapply (show _ ⊢ _ from Rounds.wp_wait_rest_token 𝒱₀ ER (plan S) (c : Thread nD τ) none (κ := K (recvCell c s))
      (w := .waitDma2 (recvS s) src dst hsrc hdst)
      (wpE_waitDma2_eq 𝒱₀ (c : Thread nD τ) none Set.univ) (Set.mem_univ _) () (O := 0) (W := W) (R := 0) (m := 0) (T := ∅)
      (by rw [expect_recv, hN, Nat.zero_add])) $$ [Hcr HO Hat]
  · isplitr; · iexact Hinv
    isplitl [Hcr]; · rw [hN]; iexact Hcr
    isplitl [HO]; · iexact HO
    isplitr; · rw [MayWait_zero]; iempintro
    iexact Hat
  iintro ⟨HO, Hat, -, Hpay⟩
  ihave Hp := (Entails.of_eq (rest_recv S c s)) $$ Hpay
  imod (cell_done S (K (recvCell c s)) (recvCell c s)) $$ [Hat] with Hz
  · isplitr; · iexact Hinv
    iexact Hat
  iapply Hk
  isplitl [HO]; · iexists _; iexact HO
  isplitl [Hz]; · iexact Hz
  unfold recvPay; iexact Hp

/-- The wait for copy `s` to have left: the lent share of the sent rows comes back. -/
theorem sent_step (c : Dev nD) (s : Fin 7) {sS : DmaSem sig} (hS : sS = sendS s)
    {src dst : Memref sig .tc .vmem S2x2048 .bf16} (hN : dst.view.dmaCredit = N)
    {hsrc : src.view.WordExact} {hdst : dst.view.WordExact} :
    iprop(records S K ∗ cred (tallyAt (sendCell c s) () N) ∗ owing c 0 ∗ atPos ER (sendCell c s) 0 ∅ 0)
      ⊢ iprop(((owing c 0 ∗ semVal (sendCell c s) 0 ∗ outPts c (share s) (S c)) -∗ runs c (k ⟨⟩) Post)
          -∗ runs c (.op (.waitDma2 sS src dst hsrc hdst) k) Post) := by
  subst hS
  unfold owing
  iintro ⟨#Hrec, Hcr, ⟨%W, HO⟩, Hat⟩ Hk
  ihave #Hinv := (inv_at S K (send_mem c s)) $$ [Hrec]
  · iexact Hrec
  iapply (show _ ⊢ _ from Rounds.wp_wait_rest_token 𝒱₀ ER (plan S) (c : Thread nD τ) none (κ := K (sendCell c s))
      (w := .waitDma2 (sendS s) src dst hsrc hdst)
      (wpE_waitDma2_eq 𝒱₀ (c : Thread nD τ) none Set.univ) (Set.mem_univ _) () (O := 0) (W := W) (R := 0) (m := 0) (T := ∅)
      (by rw [expect_send, hN, Nat.zero_add])) $$ [Hcr HO Hat]
  · isplitr; · iexact Hinv
    isplitl [Hcr]; · rw [hN]; iexact Hcr
    isplitl [HO]; · iexact HO
    isplitr; · rw [MayWait_zero]; iempintro
    iexact Hat
  iintro ⟨HO, Hat, -, Hpay⟩
  ihave Hp := (Entails.of_eq (rest_send S c s)) $$ Hpay
  imod (cell_done S (K (sendCell c s)) (sendCell c s)) $$ [Hat] with Hz
  · isplitr; · iexact Hinv
    iexact Hat
  iapply Hk
  isplitl [HO]; · iexists _; iexact HO
  isplitl [Hz]; · iexact Hz
  unfold sendPay; iexact Hp

end Cert.RowSums

end

end
-- ==== Proof.First.lean ====
/-
# The first grid point

The device signals the seven others, lending each the slot that it will fill, and keeps the two sums of its first row
block in the accumulator.
-/
module

public import proofs.«01_k».proof.Proof.Steps

@[expose] public section

noncomputable section

namespace Cert.RowSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The addressed devices

The kernel computes every device number from its own; each is the peer that the plan names. -/

theorem dev1_eq (c : Dev nD) (h) : (⟨k0_dev1 c, h⟩ : Dev nD) = peer 0 c := Fin.ext ((k0_dev1_eq c).trans (by revert c; decide))
theorem dev2_eq (c : Dev nD) (h) : (⟨k0_dev2 c, h⟩ : Dev nD) = peer 1 c := Fin.ext ((k0_dev2_eq c).trans (by revert c; decide))
theorem dev3_eq (c : Dev nD) (h) : (⟨k0_dev3 c, h⟩ : Dev nD) = peer 2 c := Fin.ext ((k0_dev3_eq c).trans (by revert c; decide))
theorem dev4_eq (c : Dev nD) (h) : (⟨k0_dev4 c, h⟩ : Dev nD) = peer 3 c := Fin.ext ((k0_dev4_eq c).trans (by revert c; decide))
theorem dev5_eq (c : Dev nD) (h) : (⟨k0_dev5 c, h⟩ : Dev nD) = peer 4 c := Fin.ext ((k0_dev5_eq c).trans (by revert c; decide))
theorem dev6_eq (c : Dev nD) (h) : (⟨k0_dev6 c, h⟩ : Dev nD) = peer 5 c := Fin.ext ((k0_dev6_eq c).trans (by revert c; decide))
theorem dev7_eq (c : Dev nD) (h) : (⟨k0_dev7 c, h⟩ : Dev nD) = peer 6 c := Fin.ext ((k0_dev7_eq c).trans (by revert c; decide))
theorem dev8_eq (c : Dev nD) (h) : (⟨k0_dev8 c, h⟩ : Dev nD) = peer 0 c := Fin.ext ((k0_dev8_eq c).trans (by revert c; decide))
theorem dev9_eq (c : Dev nD) (h) : (⟨k0_dev9 c, h⟩ : Dev nD) = peer 1 c := Fin.ext ((k0_dev9_eq c).trans (by revert c; decide))
theorem dev10_eq (c : Dev nD) (h) : (⟨k0_dev10 c, h⟩ : Dev nD) = peer 2 c := Fin.ext ((k0_dev10_eq c).trans (by revert c; decide))
theorem dev11_eq (c : Dev nD) (h) : (⟨k0_dev11 c, h⟩ : Dev nD) = peer 3 c := Fin.ext ((k0_dev11_eq c).trans (by revert c; decide))
theorem dev12_eq (c : Dev nD) (h) : (⟨k0_dev12 c, h⟩ : Dev nD) = peer 4 c := Fin.ext ((k0_dev12_eq c).trans (by revert c; decide))
theorem dev13_eq (c : Dev nD) (h) : (⟨k0_dev13 c, h⟩ : Dev nD) = peer 5 c := Fin.ext ((k0_dev13_eq c).trans (by revert c; decide))
theorem dev14_eq (c : Dev nD) (h) : (⟨k0_dev14 c, h⟩ : Dev nD) = peer 6 c := Fin.ext ((k0_dev14_eq c).trans (by revert c; decide))

/-! ## What the device computes -/

abbrev XC : Type := (cc0_stg0_0 : Ref sig .tc).ty.Contents (Elt F)
abbrev AccC : Type := (cc0_scratch0 : Ref sig .tc).ty.Contents (Elt F)

section Values
variable (X Y : Dev nD → Fin 2 → XC (F := F)) (c : Dev nD)

/-- The accumulator after the first point: the two sums of the first row block. -/
def acc₀ : AccC (F := F) := k0_pay2 (k0_pay9 (X c 0) (Y c 0)) (k0_pay10 (Y c 0))
/-- The accumulator after the second point: the second block's added. -/
def acc₁ : AccC (F := F) := k0_pay3 (k0_pay9 (X c 1) (Y c 1)) (k0_pay10 (Y c 1)) (acc₀ X Y c)
/-- What the device sends. -/
def sent : OutC (F := F) := k0_pay5 (acc₁ X Y c)
/-- What it reads of slot `s`. -/
def got (s : Fin 7) : FVec F S1x2x2048 .bf16 :=
  inM.view.readAt (Elt F) (slotR s).toLoadRect (landed (sent X Y) c)
/-- What it stores in the end. -/
def res : AccC (F := F) :=
  k0_pay4 (k0_pay6 (got X Y c 0)) (k0_pay7 (got X Y c 1)) (got X Y c 2) (got X Y c 3) (got X Y c 4) (got X Y c 5) (got X Y c 6) (acc₁ X Y c)
end Values

/-! ## Buffers -/

/-- A whole buffer of device `c` at contents `f`. -/
abbrev whole (c : Dev nD) (b : Ref sig .tc) (f : b.ty.Contents (Elt F)) : sProp 𝕄 :=
  ((c : Thread nD τ).loc b) ↦{fullShare} f

/-- The whole of an accumulator-shaped buffer. -/
abbrev rA : Rect S2x2048 := Rect.unit ![0, 0] S2x2048.size inb_S2x2048_S2x2048_0_0

theorem hz : (![0, 0] : Fin 2 → Nat) = fun _ => 0 := funext fun a => by fin_cases a <;> rfl

/-! ## The state before and after -/

section State
variable (X Y : Dev nD → Fin 2 → XC (F := F)) (c : Dev nD)

/-- The device's cells, all open and none paid, and the duties of its copies. -/
def talking : sProp 𝕄 :=
  iprop(atPos ER (barCell c) 0 ∅ 0
    ∗ (bigSep Finset.univ fun s : Fin 7 => atPos ER (sendCell c s) 0 ∅ 0)
    ∗ (bigSep Finset.univ fun s : Fin 7 => atPos ER (recvCell c s) 0 ∅ 0)
    ∗ (bigSep Finset.univ fun s : Fin 7 => reached ER (sendCell c s) 0)
    ∗ (bigSep Finset.univ fun s : Fin 7 => reached ER (recvCell c s) 0)
    ∗ copyToks c
    ∗ cred (tallyAt (barCell c) () 7)
    ∗ (bigSep Finset.univ fun s : Fin 7 => cred (tallyAt (recvCell c s) () N)))

/-- Before the first point. -/
def start (K : GSem nD τ sig → ℕ) : sProp 𝕄 :=
  iprop(records (sent X Y) K ∗ levAts L lv ∗ talking c ∗ signalToks c
    ∗ (∃ f, whole c cc0_scratch0 f) ∗ (∃ f, whole c cc0_scratch1 f) ∗ (∃ f, whole c cc0_scratch2 f))
/-- Between the two: the signals are sent, every slot is lent. -/
def middle (K : GSem nD τ sig → ℕ) : sProp 𝕄 :=
  iprop(records (sent X Y) K ∗ levAts L lv ∗ talking c
    ∗ whole c cc0_scratch0 (acc₀ X Y c) ∗ (∃ f, whole c cc0_scratch1 f))
end State

omit [FloatOps F] in
theorem recv_reached (c : Dev nD) (s : Fin 7) :
    (bigSep Finset.univ fun s : Fin 7 => reached ER (recvCell c s) 0 : sProp 𝕄) ⊢ reached ER (recvCell c s) 0 :=
  bigSep_elim (Φ := fun s : Fin 7 => (reached ER (recvCell c s) 0 : sProp 𝕄)) (Finset.mem_univ s)
omit [FloatOps F] in
theorem send_reached (c : Dev nD) (s : Fin 7) :
    (bigSep Finset.univ fun s : Fin 7 => reached ER (sendCell c s) 0 : sProp 𝕄) ⊢ reached ER (sendCell c s) 0 :=
  bigSep_elim (Φ := fun s : Fin 7 => (reached ER (sendCell c s) 0 : sProp 𝕄)) (Finset.mem_univ s)

section Body
variable (X Y : Dev nD → Fin 2 → XC (F := F)) (c : Dev nD) (K : GSem nD τ sig → ℕ)

set_option maxHeartbeats 1000000 in
/-- The body at the first point. -/
theorem first_point {Post : PUnit → sProp (MT nD τ sig Unit (Elt F) ℕ UU ℕ)} :
    iprop(start X Y c K ∗ owing c (owed₀ c) ∗ whole c cc0_stg0_0 (X c 0) ∗ whole c cc0_stg1_0 (Y c 0)
        ∗ ((middle X Y c K ∗ owing c (copiesOwed c all7) ∗ whole c cc0_stg0_0 (X c 0) ∗ whole c cc0_stg1_0 (Y c 0)) -∗ Post ⟨⟩))
      ⊢ runs c (cc0_body (grid0.coords t0_0) (Memref.whole main_v11) (Memref.isWhole_whole _) (Memref.whole cc0_stg0_0) (Memref.isWhole_whole _)
          (Memref.whole cc0_stg1_0) (Memref.isWhole_whole _) (Memref.whole cc0_stg2_0) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4) Post := by
  have h1 : k0_cond1 (grid0.coords t0_0) = 1#1 := by decide
  have h4 : ¬ k0_cond4 (grid0.coords t0_0) = 1#1 := by decide
  have h2 : Scalar.cmpi .ne (Scalar.extui (Scalar.cmpi .eq (BitVec.ofNat 32 ((grid0.coords t0_0) 0).val) 0#32) : BitVec 32) 0#32 = 1#1 := by decide
  have h3 : ¬ Scalar.cmpi .ne (Scalar.extui (Scalar.cmpi .sgt (BitVec.ofNat 32 ((grid0.coords t0_0) 0).val) 0#32) : BitVec 32) 0#32 = 1#1 := by decide
  simp only [cc0_body_eq_skeleton]; unfold cc0_body_skel
  simp only [dif_neg h4]
  simp only [k0_part9_eq_skeleton]; unfold k0_part9_skel
  simp only [k0_part1_eq_skeleton]; unfold k0_part1_skel
  simp only [semSignalWord, semWaitWord, Prog.lift, Prog.bind_op, Prog.bind_ret, Prog.pure_eq_ret, wp_deviceId, dif_pos h1, dif_pos h2, dif_neg h3]
  unfold start talking
  rw [show signalToks (F := F) c = _ from bigSep_seven _, show owed₀ c = copiesOwed c all7 + signalsOwed c all7 from rfl]
  iintro ⟨⟨#Hrec, #Hlev, Htalk, ⟨T0, T1, T2, T3, T4, T5, T6⟩, Hacc, Hout, ⟨%fi, Hin⟩⟩, HO, Hx, Hy, Hk⟩
  ihave Hsl := (Entails.of_eq ((slots_eq c fi).trans (bigSep_seven _))) $$ Hin
  icases Hsl with ⟨L0, L1, L2, L3, L4, L5, L6⟩
  icases Htalk with ⟨HatB, HatS, HatR, #HrS, #HrR, Htk, HcB, HcR⟩
  iapply (signal_step (sent X Y) K c _ 0 (dev1_eq c _) (by decide) (copiesOwed c all7) [1, 2, 3, 4, 5, 6] fi) $$ [HO T0 L0]
  · isplitr; · iexact Hrec
    isplitl [HO]; · iexact HO
    isplitl [T0]; · iexact T0
    isplitl [L0]; · iexact L0
    iapply (recv_reached c 0); iexact HrR
  iintro HO
  iapply (signal_step (sent X Y) K c _ 1 (dev2_eq c _) (by decide) (copiesOwed c all7) [2, 3, 4, 5, 6] fi) $$ [HO T1 L1]
  · isplitr; · iexact Hrec
    isplitl [HO]; · iexact HO
    isplitl [T1]; · iexact T1
    isplitl [L1]; · iexact L1
    iapply (recv_reached c 1); iexact HrR
  iintro HO
  iapply (signal_step (sent X Y) K c _ 2 (dev3_eq c _) (by decide) (copiesOwed c all7) [3, 4, 5, 6] fi) $$ [HO T2 L2]
  · isplitr; · iexact Hrec
    isplitl [HO]; · iexact HO
    isplitl [T2]; · iexact T2
    isplitl [L2]; · iexact L2
    iapply (recv_reached c 2); iexact HrR
  iintro HO
  iapply (signal_step (sent X Y) K c _ 3 (dev4_eq c _) (by decide) (copiesOwed c all7) [4, 5, 6] fi) $$ [HO T3 L3]
  · isplitr; · iexact Hrec
    isplitl [HO]; · iexact HO
    isplitl [T3]; · iexact T3
    isplitl [L3]; · iexact L3
    iapply (recv_reached c 3); iexact HrR
  iintro HO
  iapply (signal_step (sent X Y) K c _ 4 (dev5_eq c _) (by decide) (copiesOwed c all7) [5, 6] fi) $$ [HO T4 L4]
  · isplitr; · iexact Hrec
    isplitl [HO]; · iexact HO
    isplitl [T4]; · iexact T4
    isplitl [L4]; · iexact L4
    iapply (recv_reached c 4); iexact HrR
  iintro HO
  iapply (signal_step (sent X Y) K c _ 5 (dev6_eq c _) (by decide) (copiesOwed c all7) [6] fi) $$ [HO T5 L5]
  · isplitr; · iexact Hrec
    isplitl [HO]; · iexact HO
    isplitl [T5]; · iexact T5
    isplitl [L5]; · iexact L5
    iapply (recv_reached c 5); iexact HrR
  iintro HO
  iapply (signal_step (sent X Y) K c _ 6 (dev7_eq c _) (by decide) (copiesOwed c all7) [] fi) $$ [HO T6 L6]
  · isplitr; · iexact Hrec
    isplitl [HO]; · iexact HO
    isplitl [T6]; · iexact T6
    isplitl [L6]; · iexact L6
    iapply (recv_reached c 6); iexact HrR
  iintro HO
  icases Hacc with ⟨%fa, Hacc⟩
  iapply (wp_load 𝒱₀ (c : Thread nD τ) none Set.univ (m := Memref.whole cc0_stg0_0) (Finset.subset_univ _)) $$ Hx; iintro Hx
  rw [show (Memref.whole cc0_stg0_0).view.readAt (Elt F) _ (X c 0) = X c 0 from Memref.readAt_unit_zero (Elt F) cc0_stg0_0 hz _ _]
  iapply (wp_load 𝒱₀ (c : Thread nD τ) none Set.univ (m := Memref.whole cc0_stg1_0) (Finset.subset_univ _)) $$ Hy; iintro Hy
  rw [show (Memref.whole cc0_stg1_0).view.readAt (Elt F) _ (Y c 0) = Y c 0 from Memref.readAt_unit_zero (Elt F) cc0_stg1_0 hz _ _]
  iapply (wp_load 𝒱₀ (c : Thread nD τ) none Set.univ (m := Memref.whole cc0_scratch0) (Finset.subset_univ _)) $$ Hacc; iintro Hacc
  iapply (wp_store 𝒱₀ (c : Thread nD τ) none Set.univ (m := Memref.whole cc0_scratch0) (r := rA) (Mk := Finset.univ) (Finset.subset_univ _)) $$ Hacc
  iintro Hacc
  rw [show ((Memref.whole cc0_scratch0).access rA).write (Elt F) fa (k0_pay2 (k0_pay9 (X c 0) (Y c 0)) (k0_pay10 (Y c 0))) Finset.univ = acc₀ X Y c
    from Memref.write_access_unit_zero_univ (Elt F) cc0_scratch0 hz _ _ _]
  rw [wp_ret]; imodintro
  iapply Hk
  rw [show signalsOwed c [] = 0 from rfl, add_zero]
  isplitr [HO Hx Hy]
  · unfold middle talking
    isplitr; · iexact Hrec
    isplitr; · iexact Hlev
    isplitr [Hacc Hout]
    · isplitl [HatB]; · iexact HatB
      isplitl [HatS]; · iexact HatS
      isplitl [HatR]; · iexact HatR
      isplitr; · iexact HrS
      isplitr; · iexact HrR
      isplitl [Htk]; · iexact Htk
      isplitl [HcB]; · iexact HcB
      iexact HcR
    isplitl [Hacc]; · iexact Hacc
    iexact Hout
  isplitl [HO]; · iexact HO
  isplitl [Hx]; · iexact Hx
  iexact Hy

end Body

end Cert.RowSums

end

end
-- ==== Proof.Second.lean ====
/-
# The second grid point

The device adds its second row block's sums to the accumulator, waits for every signal, sends the rounded sums to the
seven others, waits for theirs and adds all eight.
-/
module

public import proofs.«01_k».proof.Proof.First

@[expose] public section

noncomputable section

namespace Cert.RowSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (X Y : Dev nD → Fin 2 → XC (F := F)) (c : Dev nD) (K : GSem nD τ sig → ℕ)

/-- After the second point: the scratch buffers hold what the device computed and received, and every cell is paid up. -/
def finish : sProp 𝕄 :=
  iprop(levAts L lv ∗ whole c cc0_scratch0 (acc₁ X Y c) ∗ whole c cc0_scratch1 (sent X Y c) ∗ whole c cc0_scratch2 (landed (sent X Y) c)
    ∗ semVal (barCell c) 0 ∗ (bigSep Finset.univ fun s : Fin 7 => semVal (sendCell c s) 0)
    ∗ (bigSep Finset.univ fun s : Fin 7 => semVal (recvCell c s) 0))

set_option maxHeartbeats 4000000 in
/-- The body at the second point. -/
theorem second_point {Post : PUnit → sProp (MT nD τ sig Unit (Elt F) ℕ UU ℕ)} (g : AccC (F := F)) :
    iprop(middle X Y c K ∗ owing c (copiesOwed c all7) ∗ whole c cc0_stg0_1 (X c 1) ∗ whole c cc0_stg1_1 (Y c 1) ∗ whole c cc0_stg2_0 g
        ∗ ((finish X Y c ∗ owing c 0 ∗ whole c cc0_stg0_1 (X c 1) ∗ whole c cc0_stg1_1 (Y c 1) ∗ whole c cc0_stg2_0 (res X Y c)) -∗ Post ⟨⟩))
      ⊢ runs c (cc0_body (grid0.coords t0_1) (Memref.whole main_v11) (Memref.isWhole_whole _) (Memref.whole cc0_stg0_1) (Memref.isWhole_whole _)
          (Memref.whole cc0_stg1_1) (Memref.isWhole_whole _) (Memref.whole cc0_stg2_0) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4) Post := by
  have h1 : ¬ k0_cond1 (grid0.coords t0_1) = 1#1 := by decide
  have h4 : k0_cond4 (grid0.coords t0_1) = 1#1 := by decide
  have h2 : ¬ Scalar.cmpi .ne (Scalar.extui (Scalar.cmpi .eq (BitVec.ofNat 32 ((grid0.coords t0_1) 0).val) 0#32) : BitVec 32) 0#32 = 1#1 := by decide
  have h3 : Scalar.cmpi .ne (Scalar.extui (Scalar.cmpi .sgt (BitVec.ofNat 32 ((grid0.coords t0_1) 0).val) 0#32) : BitVec 32) 0#32 = 1#1 := by decide
  simp only [cc0_body_eq_skeleton]; unfold cc0_body_skel
  simp only [dif_pos h4]
  simp only [k0_part9_eq_skeleton]; unfold k0_part9_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [semSignalWord, semWaitWord, Prog.lift, Prog.bind_op, Prog.bind_ret, Prog.pure_eq_ret, wp_deviceId, dif_neg h1, dif_neg h2, dif_pos h3]
  unfold middle talking
  rw [show copyToks (F := F) c = _ from bigSep_seven _]
  iintro ⟨⟨#Hrec, #Hlev, ⟨HatB, HatS, HatR, #HrS, #HrR, ⟨T0, T1, T2, T3, T4, T5, T6⟩, HcB, HcR⟩, Hacc, ⟨%fo, Hout⟩⟩, HO, Hx, Hy, Hg, Hk⟩
  ihave HatS := (Entails.of_eq (bigSep_seven _)) $$ HatS
  ihave HatR := (Entails.of_eq (bigSep_seven _)) $$ HatR
  ihave HcR := (Entails.of_eq (bigSep_seven _)) $$ HcR
  icases HatS with ⟨AS0, AS1, AS2, AS3, AS4, AS5, AS6⟩
  icases HatR with ⟨AR0, AR1, AR2, AR3, AR4, AR5, AR6⟩
  icases HcR with ⟨CR0, CR1, CR2, CR3, CR4, CR5, CR6⟩
  iapply (wp_load 𝒱₀ (c : Thread nD τ) none Set.univ (m := Memref.whole cc0_stg0_1) (Finset.subset_univ _)) $$ Hx; iintro Hx
  rw [show (Memref.whole cc0_stg0_1).view.readAt (Elt F) _ (X c 1) = X c 1 from Memref.readAt_unit_zero (Elt F) cc0_stg0_1 hz _ _]
  iapply (wp_load 𝒱₀ (c : Thread nD τ) none Set.univ (m := Memref.whole cc0_stg1_1) (Finset.subset_univ _)) $$ Hy; iintro Hy
  rw [show (Memref.whole cc0_stg1_1).view.readAt (Elt F) _ (Y c 1) = Y c 1 from Memref.readAt_unit_zero (Elt F) cc0_stg1_1 hz _ _]
  iapply (wp_load 𝒱₀ (c : Thread nD τ) none Set.univ (m := Memref.whole cc0_scratch0) (Finset.subset_univ _)) $$ Hacc; iintro Hacc
  rw [show (Memref.whole cc0_scratch0).view.readAt (Elt F) _ (acc₀ X Y c) = acc₀ X Y c from Memref.readAt_unit_zero (Elt F) cc0_scratch0 hz _ _]
  iapply (wp_load 𝒱₀ (c : Thread nD τ) none Set.univ (m := Memref.whole cc0_scratch0) (Finset.subset_univ _)) $$ Hacc; iintro Hacc
  iapply (wp_store 𝒱₀ (c : Thread nD τ) none Set.univ (m := Memref.whole cc0_scratch0) (r := rA) (Mk := Finset.univ) (Finset.subset_univ _)) $$ Hacc; iintro Hacc
  rw [show ((Memref.whole cc0_scratch0).access rA).write (Elt F) (acc₀ X Y c) (k0_pay3 (k0_pay9 (X c 1) (Y c 1)) (k0_pay10 (Y c 1)) (acc₀ X Y c)) Finset.univ = acc₁ X Y c
    from Memref.write_access_unit_zero_univ (Elt F) cc0_scratch0 hz _ _ _]
  iapply (wp_load 𝒱₀ (c : Thread nD τ) none Set.univ (m := Memref.whole cc0_scratch0) (Finset.subset_univ _)) $$ Hacc; iintro Hacc
  rw [show (Memref.whole cc0_scratch0).view.readAt (Elt F) _ (acc₁ X Y c) = acc₁ X Y c from Memref.readAt_unit_zero (Elt F) cc0_scratch0 hz _ _]
  iapply (wp_load 𝒱₀ (c : Thread nD τ) none Set.univ (m := Memref.whole cc0_scratch1) (Finset.subset_univ _)) $$ Hout; iintro Hout
  iapply (wp_store 𝒱₀ (c : Thread nD τ) none Set.univ (m := Memref.whole cc0_scratch1) (r := rA) (Mk := Finset.univ) (Finset.subset_univ _)) $$ Hout; iintro Hout
  rw [show ((Memref.whole cc0_scratch1).access rA).write (Elt F) fo (k0_pay5 (acc₁ X Y c)) Finset.univ = sent X Y c
    from Memref.write_access_unit_zero_univ (Elt F) cc0_scratch1 hz _ _ _]
  iapply (barrier_step (sent X Y) K c (by decide) all7) $$ [HcB HO HatB]
  · isplitr; · iexact Hrec
    isplitr; · iexact Hlev
    isplitl [HcB]; · iexact HcB
    isplitl [HO]; · iexact HO
    iexact HatB
  iintro ⟨HO, HvB, Hpay⟩
  ihave Hpay := (Entails.of_eq (bigSep_seven _)) $$ Hpay
  icases Hpay with ⟨P0, P1, P2, P3, P4, P5, P6⟩
  ihave Hout := (Entails.of_eq ((shares_eq c (sent X Y c)).trans (bigSep_seven _))) $$ Hout
  icases Hout with ⟨O0, O1, O2, O3, O4, O5, O6⟩
  iapply (send_step (sent X Y) K c _ 0 (dev8_eq c _) [1, 2, 3, 4, 5, 6]) $$ [O0 P0 HO T0]
  · isplitr; · iexact Hrec
    isplitl [O0]; · iexact O0
    isplitl [P0]; · iexact P0
    isplitl [HO]; · iexact HO
    isplitl [T0]; · iexact T0
    iapply (send_reached c 0); iexact HrS
  iintro ⟨CS0, HO⟩
  iapply (send_step (sent X Y) K c _ 1 (dev9_eq c _) [2, 3, 4, 5, 6]) $$ [O1 P1 HO T1]
  · isplitr; · iexact Hrec
    isplitl [O1]; · iexact O1
    isplitl [P1]; · iexact P1
    isplitl [HO]; · iexact HO
    isplitl [T1]; · iexact T1
    iapply (send_reached c 1); iexact HrS
  iintro ⟨CS1, HO⟩
  iapply (send_step (sent X Y) K c _ 2 (dev10_eq c _) [3, 4, 5, 6]) $$ [O2 P2 HO T2]
  · isplitr; · iexact Hrec
    isplitl [O2]; · iexact O2
    isplitl [P2]; · iexact P2
    isplitl [HO]; · iexact HO
    isplitl [T2]; · iexact T2
    iapply (send_reached c 2); iexact HrS
  iintro ⟨CS2, HO⟩
  iapply (send_step (sent X Y) K c _ 3 (dev11_eq c _) [4, 5, 6]) $$ [O3 P3 HO T3]
  · isplitr; · iexact Hrec
    isplitl [O3]; · iexact O3
    isplitl [P3]; · iexact P3
    isplitl [HO]; · iexact HO
    isplitl [T3]; · iexact T3
    iapply (send_reached c 3); iexact HrS
  iintro ⟨CS3, HO⟩
  iapply (send_step (sent X Y) K c _ 4 (dev12_eq c _) [5, 6]) $$ [O4 P4 HO T4]
  · isplitr; · iexact Hrec
    isplitl [O4]; · iexact O4
    isplitl [P4]; · iexact P4
    isplitl [HO]; · iexact HO
    isplitl [T4]; · iexact T4
    iapply (send_reached c 4); iexact HrS
  iintro ⟨CS4, HO⟩
  iapply (send_step (sent X Y) K c _ 5 (dev13_eq c _) [6]) $$ [O5 P5 HO T5]
  · isplitr; · iexact Hrec
    isplitl [O5]; · iexact O5
    isplitl [P5]; · iexact P5
    isplitl [HO]; · iexact HO
    isplitl [T5]; · iexact T5
    iapply (send_reached c 5); iexact HrS
  iintro ⟨CS5, HO⟩
  iapply (send_step (sent X Y) K c _ 6 (dev14_eq c _) []) $$ [O6 P6 HO T6]
  · isplitr; · iexact Hrec
    isplitl [O6]; · iexact O6
    isplitl [P6]; · iexact P6
    isplitl [HO]; · iexact HO
    isplitl [T6]; · iexact T6
    iapply (send_reached c 6); iexact HrS
  iintro ⟨CS6, HO⟩
  rw [show copiesOwed c [] = 0 from rfl]
  iapply (recv_step (sent X Y) K c 0 (sR := recvS 0) rfl (src := outM) (dst := slotM 0) rfl) $$ [CR0 HO AR0]
  · isplitr; · iexact Hrec
    isplitl [CR0]; · iexact CR0
    isplitl [HO]; · iexact HO
    iexact AR0
  iintro ⟨HO, VR0, B0⟩
  iapply (recv_step (sent X Y) K c 1 (sR := recvS 1) rfl (src := outM) (dst := slotM 1) rfl) $$ [CR1 HO AR1]
  · isplitr; · iexact Hrec
    isplitl [CR1]; · iexact CR1
    isplitl [HO]; · iexact HO
    iexact AR1
  iintro ⟨HO, VR1, B1⟩
  iapply (recv_step (sent X Y) K c 2 (sR := recvS 2) rfl (src := outM) (dst := slotM 2) rfl) $$ [CR2 HO AR2]
  · isplitr; · iexact Hrec
    isplitl [CR2]; · iexact CR2
    isplitl [HO]; · iexact HO
    iexact AR2
  iintro ⟨HO, VR2, B2⟩
  iapply (recv_step (sent X Y) K c 3 (sR := recvS 3) rfl (src := outM) (dst := slotM 3) rfl) $$ [CR3 HO AR3]
  · isplitr; · iexact Hrec
    isplitl [CR3]; · iexact CR3
    isplitl [HO]; · iexact HO
    iexact AR3
  iintro ⟨HO, VR3, B3⟩
  iapply (recv_step (sent X Y) K c 4 (sR := recvS 4) rfl (src := outM) (dst := slotM 4) rfl) $$ [CR4 HO AR4]
  · isplitr; · iexact Hrec
    isplitl [CR4]; · iexact CR4
    isplitl [HO]; · iexact HO
    iexact AR4
  iintro ⟨HO, VR4, B4⟩
  iapply (recv_step (sent X Y) K c 5 (sR := recvS 5) rfl (src := outM) (dst := slotM 5) rfl) $$ [CR5 HO AR5]
  · isplitr; · iexact Hrec
    isplitl [CR5]; · iexact CR5
    isplitl [HO]; · iexact HO
    iexact AR5
  iintro ⟨HO, VR5, B5⟩
  iapply (recv_step (sent X Y) K c 6 (sR := recvS 6) rfl (src := outM) (dst := slotM 6) rfl) $$ [CR6 HO AR6]
  · isplitr; · iexact Hrec
    isplitl [CR6]; · iexact CR6
    isplitl [HO]; · iexact HO
    iexact AR6
  iintro ⟨HO, VR6, B6⟩
  iapply (sent_step (sent X Y) K c 0 (sS := sendS 0) rfl (src := slotM 0) (dst := outM) rfl) $$ [CS0 HO AS0]
  · isplitr; · iexact Hrec
    isplitl [CS0]; · iexact CS0
    isplitl [HO]; · iexact HO
    iexact AS0
  iintro ⟨HO, VS0, O0⟩
  iapply (sent_step (sent X Y) K c 1 (sS := sendS 1) rfl (src := slotM 1) (dst := outM) rfl) $$ [CS1 HO AS1]
  · isplitr; · iexact Hrec
    isplitl [CS1]; · iexact CS1
    isplitl [HO]; · iexact HO
    iexact AS1
  iintro ⟨HO, VS1, O1⟩
  iapply (sent_step (sent X Y) K c 2 (sS := sendS 2) rfl (src := slotM 2) (dst := outM) rfl) $$ [CS2 HO AS2]
  · isplitr; · iexact Hrec
    isplitl [CS2]; · iexact CS2
    isplitl [HO]; · iexact HO
    iexact AS2
  iintro ⟨HO, VS2, O2⟩
  iapply (sent_step (sent X Y) K c 3 (sS := sendS 3) rfl (src := slotM 3) (dst := outM) rfl) $$ [CS3 HO AS3]
  · isplitr; · iexact Hrec
    isplitl [CS3]; · iexact CS3
    isplitl [HO]; · iexact HO
    iexact AS3
  iintro ⟨HO, VS3, O3⟩
  iapply (sent_step (sent X Y) K c 4 (sS := sendS 4) rfl (src := slotM 4) (dst := outM) rfl) $$ [CS4 HO AS4]
  · isplitr; · iexact Hrec
    isplitl [CS4]; · iexact CS4
    isplitl [HO]; · iexact HO
    iexact AS4
  iintro ⟨HO, VS4, O4⟩
  iapply (sent_step (sent X Y) K c 5 (sS := sendS 5) rfl (src := slotM 5) (dst := outM) rfl) $$ [CS5 HO AS5]
  · isplitr; · iexact Hrec
    isplitl [CS5]; · iexact CS5
    isplitl [HO]; · iexact HO
    iexact AS5
  iintro ⟨HO, VS5, O5⟩
  iapply (sent_step (sent X Y) K c 6 (sS := sendS 6) rfl (src := slotM 6) (dst := outM) rfl) $$ [CS6 HO AS6]
  · isplitr; · iexact Hrec
    isplitl [CS6]; · iexact CS6
    isplitl [HO]; · iexact HO
    iexact AS6
  iintro ⟨HO, VS6, O6⟩
  ihave Hin := (Entails.of_eq ((slots_eq c (landed (sent X Y) c)).trans (bigSep_seven _)).symm) $$ [B0 B1 B2 B3 B4 B5 B6]
  · isplitl [B0]; · iexact B0
    isplitl [B1]; · iexact B1
    isplitl [B2]; · iexact B2
    isplitl [B3]; · iexact B3
    isplitl [B4]; · iexact B4
    isplitl [B5]; · iexact B5
    iexact B6
  ihave Hout := (Entails.of_eq ((shares_eq c (sent X Y c)).trans (bigSep_seven _)).symm) $$ [O0 O1 O2 O3 O4 O5 O6]
  · isplitl [O0]; · iexact O0
    isplitl [O1]; · iexact O1
    isplitl [O2]; · iexact O2
    isplitl [O3]; · iexact O3
    isplitl [O4]; · iexact O4
    isplitl [O5]; · iexact O5
    iexact O6
  ihave HvR := (Entails.of_eq (bigSep_seven (fun s : Fin 7 => (semVal (recvCell c s) 0 : sProp 𝕄))).symm) $$ [VR0 VR1 VR2 VR3 VR4 VR5 VR6]
  · isplitl [VR0]; · iexact VR0
    isplitl [VR1]; · iexact VR1
    isplitl [VR2]; · iexact VR2
    isplitl [VR3]; · iexact VR3
    isplitl [VR4]; · iexact VR4
    isplitl [VR5]; · iexact VR5
    iexact VR6
  ihave HvS := (Entails.of_eq (bigSep_seven (fun s : Fin 7 => (semVal (sendCell c s) 0 : sProp 𝕄))).symm) $$ [VS0 VS1 VS2 VS3 VS4 VS5 VS6]
  · isplitl [VS0]; · iexact VS0
    isplitl [VS1]; · iexact VS1
    isplitl [VS2]; · iexact VS2
    isplitl [VS3]; · iexact VS3
    isplitl [VS4]; · iexact VS4
    isplitl [VS5]; · iexact VS5
    iexact VS6
  iapply (wp_load 𝒱₀ (c : Thread nD τ) none Set.univ (m := Memref.whole cc0_scratch2) (Finset.subset_univ _)) $$ Hin; iintro Hin
  iapply (wp_load 𝒱₀ (c : Thread nD τ) none Set.univ (m := Memref.whole cc0_scratch2) (Finset.subset_univ _)) $$ Hin; iintro Hin
  iapply (wp_load 𝒱₀ (c : Thread nD τ) none Set.univ (m := Memref.whole cc0_scratch2) (Finset.subset_univ _)) $$ Hin; iintro Hin
  iapply (wp_load 𝒱₀ (c : Thread nD τ) none Set.univ (m := Memref.whole cc0_scratch2) (Finset.subset_univ _)) $$ Hin; iintro Hin
  iapply (wp_load 𝒱₀ (c : Thread nD τ) none Set.univ (m := Memref.whole cc0_scratch2) (Finset.subset_univ _)) $$ Hin; iintro Hin
  iapply (wp_load 𝒱₀ (c : Thread nD τ) none Set.univ (m := Memref.whole cc0_scratch2) (Finset.subset_univ _)) $$ Hin; iintro Hin
  iapply (wp_load 𝒱₀ (c : Thread nD τ) none Set.univ (m := Memref.whole cc0_scratch2) (Finset.subset_univ _)) $$ Hin; iintro Hin
  iapply (wp_load 𝒱₀ (c : Thread nD τ) none Set.univ (m := Memref.whole cc0_scratch0) (Finset.subset_univ _)) $$ Hacc; iintro Hacc
  rw [show (Memref.whole cc0_scratch0).view.readAt (Elt F) _ (acc₁ X Y c) = acc₁ X Y c from Memref.readAt_unit_zero (Elt F) cc0_scratch0 hz _ _]
  iapply (wp_load 𝒱₀ (c : Thread nD τ) none Set.univ (m := Memref.whole cc0_stg2_0) (Finset.subset_univ _)) $$ Hg; iintro Hg
  iapply (wp_store 𝒱₀ (c : Thread nD τ) none Set.univ (m := Memref.whole cc0_stg2_0) (r := rA) (Mk := Finset.univ) (Finset.subset_univ _)) $$ Hg; iintro Hg
  rw [show ∀ w : AccC (F := F), ((Memref.whole cc0_stg2_0).access rA).write (Elt F) g w Finset.univ = w
    from fun w => Memref.write_access_unit_zero_univ (Elt F) cc0_stg2_0 hz _ _ _]
  rw [wp_ret]; imodintro
  iapply Hk
  isplitr [HO Hx Hy Hg]
  · unfold finish
    isplitr; · iexact Hlev
    isplitl [Hacc]; · iexact Hacc
    isplitl [Hout]; · iexact Hout
    isplitl [Hin]; · iexact Hin
    isplitl [HvB]; · iexact HvB
    isplitl [HvS]; · iexact HvS
    iexact HvR
  isplitl [HO]; · iexact HO
  isplitl [Hx]; · iexact Hx
  isplitl [Hy]; · iexact Hy
  iexact Hg
end Body

end Cert.RowSums
-- ==== Proof.Table.lean ====
/-
# The table and the windows

The host computes from the device's number which pair of row blocks it takes and passes that as a one-word table.
-/
module

public import proofs.«01_k».proof.Proof.Second
public import proofs.«01_k».proof.Proof.Gen.KernelIdeal.Regions

@[expose] public section

noncomputable section

namespace Cert.RowSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The table -/

variable (m : (ℓ : Loc nD τ sig) → Buf (Elt F) ℓ) (c : Dev nD)

/-- The pair of row blocks that device `c` takes. -/
def pair (c : Dev nD) : ℕ := c.val / 2 % 2 * 2 + c.val % 2

theorem pair_lt (c : Dev nD) : pair c < 4 := by unfold pair; omega

/-- The table that the host makes. -/
theorem table_eq : V1 m c main_v11 = fun _ => BitVec.ofNat 32 (pair c) := by
  unfold V1 hostOps0
  after_results_simp
  funext i
  refine Eq.trans (b := IntOp.remui .host (IntOp.divui .host c.word 2#32) 2#32 * 2#32
    + IntOp.remui .host (IntOp.divui .host c.word 1#32) 2#32) rfl ?_
  unfold IntOp.divui IntOp.remui
  rw [if_neg (by decide), if_neg (by decide), if_neg (by decide)]
  revert c
  decide

/-- The tables of the one kernel, as the region finds them. -/
def tables : pre0.Contents (Elt F) := fun k => V1 m c (pre0.ref k)

theorem at_eq : (tables m c).at 0 (Rect.unit ![0] S1.size inb_S1_S1_0) numel1_S1 = BitVec.ofNat 32 (pair c) := by
  have h : tables m c 0 = fun _ => BitVec.ofNat 32 (pair c) := table_eq m c
  exact congrFun h _

theorem word_eq (c : Dev nD) (i : grid0.Coords) :
    (![(BitVec.ofNat 32 (pair c) * 2#32 + BitVec.ofNat 32 (i 0).val).toNat, 0] : Fin 2 → ℕ) = ![pair c * 2 + (i 0).val, 0] := by
  have h : (i 0).val < 2 := (i 0).isLt
  have hc := pair_lt c
  congr 1
  simp only [BitVec.toNat_add, BitVec.toNat_mul, BitVec.toNat_ofNat]
  omega

/-- The block of the first input at a grid point. -/
theorem map0_eq (i : grid0.Coords) : cc0_transform_0 inb_S1_S1_0 numel1_S1 (tables m c) i = ![pair c * 2 + (i 0).val, 0] :=
  (congrArg (fun w : BitVec 32 => (![(w * 2#32 + BitVec.ofNat 32 (i 0).val).toNat, 0] : Fin 2 → ℕ)) (at_eq m c)).trans
    (word_eq c i)

/-- The block of the second input at a grid point. -/
theorem map1_eq (i : grid0.Coords) : cc0_transform_1 inb_S1_S1_0 numel1_S1 (tables m c) i = ![pair c * 2 + (i 0).val, 0] :=
  (congrArg (fun w : BitVec 32 => (![(w * 2#32 + BitVec.ofNat 32 (i 0).val).toNat, 0] : Fin 2 → ℕ)) (at_eq m c)).trans
    (word_eq c i)

theorem block_inb (c : Dev nD) (i : grid0.Coords) (a : Fin 2) :
    ((![pair c * 2 + (i 0).val, 0] : Fin 2 → ℕ) a + 1) * S256x2048.size a ≤ S2048x2048.size a := by
  have h : (i 0).val < 2 := (i 0).isLt
  have hc := pair_lt c
  fin_cases a
  · show (pair c * 2 + (i 0).val + 1) * 256 ≤ 2048
    omega
  · show (0 + 1) * 2048 ≤ 2048
    omega

/-- The table keeps both inputs' blocks inside their arrays. -/
theorem tables_ok : ok0 (tables m c) :=
  ⟨fun i => ⟨fun a => by rw [map0_eq m c i]; exact block_inb c i a, .inl rfl⟩,
   fun i => ⟨fun a => by rw [map1_eq m c i]; exact block_inb c i a, .inl rfl⟩⟩

/-- The tables with which the region runs on device `c`. -/
def adm : (p : Fin 1) → (pcfgs (F := F) p).Adm
  | 0 => ⟨tables m c, tables_ok m c⟩
  | ⟨_ + 1, h⟩ => absurd h (Nat.not_lt.2 (Nat.le_add_left _ _))

/-- The pipeline that device `c` runs. -/
abbrev cfg := (pcfgs (F := F) 0).at (adm m c 0)

/-- The first input's block moves between the two points. -/
theorem moved0 : ((cfg m c).win 0).index t0_1 ≠ ((cfg m c).win 0).index t0_0 := by
  show cc0_transform_0 inb_S1_S1_0 numel1_S1 (tables m c) (grid0.coords t0_1)
    ≠ cc0_transform_0 inb_S1_S1_0 numel1_S1 (tables m c) (grid0.coords t0_0)
  rw [map0_eq, map0_eq]
  intro h
  have h0 : pair c * 2 + 1 = pair c * 2 + 0 := congrFun h 0
  omega

/-- The second input's block moves between the two points. -/
theorem moved1 : ((cfg m c).win 1).index t0_1 ≠ ((cfg m c).win 1).index t0_0 := by
  show cc0_transform_1 inb_S1_S1_0 numel1_S1 (tables m c) (grid0.coords t0_1)
    ≠ cc0_transform_1 inb_S1_S1_0 numel1_S1 (tables m c) (grid0.coords t0_0)
  rw [map1_eq, map1_eq]
  intro h
  have h0 : pair c * 2 + 1 = pair c * 2 + 0 := congrFun h 0
  omega

theorem fetch0_1 : ((cfg m c).win 0).fetch t0_1 = true := by
  unfold Pipeline.Window.fetch
  rw [Bool.and_eq_true, Bool.or_eq_true]
  exact ⟨rfl, Or.inr (decide_eq_true ⟨Nat.one_pos, moved0 m c⟩)⟩
theorem fetch1_1 : ((cfg m c).win 1).fetch t0_1 = true := by
  unfold Pipeline.Window.fetch
  rw [Bool.and_eq_true, Bool.or_eq_true]
  exact ⟨rfl, Or.inr (decide_eq_true ⟨Nat.one_pos, moved1 m c⟩)⟩
theorem fetch0_0 : ((cfg m c).win 0).fetch t0_0 = true := rfl
theorem fetch1_0 : ((cfg m c).win 1).fetch t0_0 = true := rfl

/-- At the first point both inputs lie in their first buffers, at the second in their second. -/
theorem slot0_0 : (cfg m c).slots t0_0 0 = (0 : Fin 2) := rfl
theorem slot1_0 : (cfg m c).slots t0_0 1 = (0 : Fin 2) := rfl
theorem slot0_1 : (cfg m c).slots t0_1 0 = (1 : Fin 2) :=
  (if_pos (show (if ((cfg m c).win 0).isOut then ((cfg m c).win 0).flush t0_0 else ((cfg m c).win 0).fetch t0_1) = true from
    (if_neg (show ¬(((cfg m c).win 0).isOut = true) from Bool.false_ne_true)).trans (fetch0_1 m c))).trans rfl
theorem slot1_1 : (cfg m c).slots t0_1 1 = (1 : Fin 2) :=
  (if_pos (show (if ((cfg m c).win 1).isOut then ((cfg m c).win 1).flush t0_0 else ((cfg m c).win 1).fetch t0_1) = true from
    (if_neg (show ¬(((cfg m c).win 1).isOut = true) from Bool.false_ne_true)).trans (fetch1_1 m c))).trans rfl
theorem slot2_0 : (cfg m c).slots t0_0 2 = (0 : Fin 1) := Fin.ext (Nat.lt_one_iff.1 (Fin.isLt _))
theorem slot2_1 : (cfg m c).slots t0_1 2 = (0 : Fin 1) := Fin.ext (Nat.lt_one_iff.1 (Fin.isLt _))

/-- The result is left alone at the first point, and written back after the last. -/
theorem idle2_0 : (cfg m c).idle 2 ((cfg m c).grid.coords t0_0) = true := by
  have h : (cfg m c).grid.coords t0_0 = grid0.coords t0_0 := rfl
  rw [h]
  exact (show idle0 2 (grid0.coords t0_0) = true by decide)
theorem idle2_1 : (cfg m c).idle 2 ((cfg m c).grid.coords t0_1) = false := by
  have h : (cfg m c).grid.coords t0_1 = grid0.coords t0_1 := rfl
  rw [h]
  exact (show idle0 2 (grid0.coords t0_1) = false by decide)
theorem flush2_0 : ((cfg m c).win 2).flush t0_0 = false := by
  unfold Pipeline.Window.flush
  rw [Bool.and_eq_false_iff]
  refine Or.inr (Bool.or_eq_false_iff.2 ⟨rfl, decide_eq_false ?_⟩)
  exact fun ⟨_, h⟩ => h rfl

end Cert.RowSums
-- ==== Proof.Data.lean ====
/-
# The region's data

What the staging buffers hold at each grid point, what the device keeps between the points, and that the body takes it from each
point to the next.
-/
module

public import proofs.«01_k».proof.Proof.Table

@[expose] public section

noncomputable section

namespace Cert.RowSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation BodyObligationLoose)

section Data
variable (m : (ℓ : Loc nD τ sig) → Buf (Elt F) ℓ)

/-- The grid's points in order. -/
abbrev pt (i : Fin 2) : Fin grid0.N := if i = 0 then t0_0 else t0_1

/-- The block of the first input that device `c` holds at point `i`. -/
def XB (c : Dev nD) (i : Fin 2) : XC (F := F) :=
  (((cfg m c).win 0).blk (pt i)).view.read (Elt F) (V1 m c main_arg0)
/-- The block of the second. -/
def YB (c : Dev nD) (i : Fin 2) : XC (F := F) :=
  (((cfg m c).win 1).blk (pt i)).view.read (Elt F) (V1 m c main_arg1)

/-- The table, held by the region. -/
abbrev table (c : Dev nD) : sProp 𝕄 := Pipeline.prefHeld pre0 c (fun _ => fullShare) (tables m c)

/-- What device `c` keeps before the point of number `n`. -/
def inv (c : Dev nD) (n : ℕ) : sProp 𝕄 :=
  if n = 0 then iprop((∃ K, start (XB m) (YB m) c K) ∗ table m c)
  else if n = 1 then iprop((∃ K, middle (XB m) (YB m) c K) ∗ table m c)
  else iprop(finish (XB m) (YB m) c ∗ table m c)

/-- What it owes then. -/
def owedAt (c : Dev nD) (n : ℕ) : CellTallies nD τ sig Unit :=
  if n = 0 then owed₀ c else if n = 1 then copiesOwed c all7 else 0

/-- The windows' arrays as the region finds them. -/
def arrays₀ (c : Dev nD) : (w : Fin (cfg m c).W) → Buf (Elt F) (((cfg m c).win w).arr.view.loc (c : Thread nD τ))
  | 0 => V1 m c main_arg0
  | 1 => V1 m c main_arg1
  | 2 => V1 m c main_v12
  | ⟨_ + 3, h⟩ => absurd h (Nat.not_lt.2 (Nat.le_add_left _ _))

/-- What the body leaves in each staging buffer. -/
def left (c : Dev nD) : (w : Fin (cfg m c).W) → Fin (cfg m c).N → ((cfg m c).win w).block.Idx → Elt F ((cfg m c).win w).elt
  | 0 => fun t => (((cfg m c).win 0).blk t).view.read (Elt F) (V1 m c main_arg0)
  | 1 => fun t => (((cfg m c).win 1).blk t).view.read (Elt F) (V1 m c main_arg1)
  | 2 => fun _ => res (XB m) (YB m) c
  | ⟨_ + 3, h⟩ => absurd h (Nat.not_lt.2 (Nat.le_add_left _ _))

/-- The region's data on device `c`. -/
def dat (c : Dev nD) : Dat τ (Elt F) Unit ℕ UU ℕ (cfg m c) c where
  A := arrays₀ m c
  after := left m c
  Φ t := inv m c t.val
  q := fun _ => fullShare
  owed t := owedAt c t.val

theorem owesAt_open (c : Dev nD) (t : Fin ((cfg m c).N + 1)) : (dat m c).owesAt () t ⊢ owing (F := F) c (owedAt c t.val) := by
  unfold Dat.owesAt Pipeline.owesWithin owing
  iintro ⟨%W, -, HO⟩; iexists W; iexact HO
theorem owesAt_make (c : Dev nD) (t : Fin ((cfg m c).N + 1)) : owing (F := F) c (owedAt c t.val) ⊢ (dat m c).owesAt () t := by
  unfold Dat.owesAt Pipeline.owesWithin Dat.bound owing
  iintro ⟨%W, HO⟩; iexists W; isplitr; · ipureintro; exact fun _ _ => Or.inl trivial
  iexact HO

omit [FloatOps F] in
theorem owns_open (c : Dev nD) (b : Ref sig .tc) (f : b.ty.Contents (Elt F)) :
    (owns c (Memref.whole b) fullShare f : sProp 𝕄) ⊢ whole c b f := by
  unfold owns; simp only [Memref.view_whole, View.read_whole, View.set_whole]
  iintro ⟨%g, %h, H⟩; subst h; iexact H
omit [FloatOps F] in
theorem owns_make (c : Dev nD) (b : Ref sig .tc) (f : b.ty.Contents (Elt F)) :
    (whole c b f : sProp 𝕄) ⊢ owns c (Memref.whole b) fullShare f := by
  unfold owns; simp only [Memref.view_whole, View.read_whole, View.set_whole]
  iintro H; iexists f; isplitr; · ipureintro; rfl
  iexact H

theorem before0_0 (c : Dev nD) (d) : (dat m c).before 0 t0_0 d = XB m c 0 :=
  ((dat m c).before_fetched 0 t0_0 (fetch0_0 m c) d).trans rfl
theorem before1_0 (c : Dev nD) (d) : (dat m c).before 1 t0_0 d = YB m c 0 :=
  ((dat m c).before_fetched 1 t0_0 (fetch1_0 m c) d).trans rfl
theorem before0_1 (c : Dev nD) (d) : (dat m c).before 0 t0_1 d = XB m c 1 :=
  ((dat m c).before_fetched 0 t0_1 (fetch0_1 m c) d).trans rfl
theorem before1_1 (c : Dev nD) (d) : (dat m c).before 1 t0_1 d = YB m c 1 :=
  ((dat m c).before_fetched 1 t0_1 (fetch1_1 m c) d).trans rfl

/-- The staging buffers of the two points. -/
def slots₀ (c : Dev nD) : (w : Fin (cfg m c).W) → Fin ((cfg m c).win w).nbuf
  | 0 => (0 : Fin 2)
  | 1 => (0 : Fin 2)
  | 2 => (0 : Fin 1)
  | ⟨_ + 3, h⟩ => absurd h (Nat.not_lt.2 (Nat.le_add_left _ _))
def slots₁ (c : Dev nD) : (w : Fin (cfg m c).W) → Fin ((cfg m c).win w).nbuf
  | 0 => (1 : Fin 2)
  | 1 => (1 : Fin 2)
  | 2 => (0 : Fin 1)
  | ⟨_ + 3, h⟩ => absurd h (Nat.not_lt.2 (Nat.le_add_left _ _))
theorem slots₀_eq (c : Dev nD) : (cfg m c).slots t0_0 = slots₀ m c := funext fun
  | 0 => slot0_0 m c
  | 1 => slot1_0 m c
  | 2 => slot2_0 m c
  | ⟨_ + 3, h⟩ => absurd h (Nat.not_lt.2 (Nat.le_add_left _ _))
theorem slots₁_eq (c : Dev nD) : (cfg m c).slots t0_1 = slots₁ m c := funext fun
  | 0 => slot0_1 m c
  | 1 => slot1_1 m c
  | 2 => slot2_1 m c
  | ⟨_ + 3, h⟩ => absurd h (Nat.not_lt.2 (Nat.le_add_left _ _))

theorem leaves2_0 (c : Dev nD) : (dat m c).leavesExact 2 t0_0
    = iprop(∃ d, owns c ((cfg m c).win 2 |>.stage ((cfg m c).slots t0_0 2)) fullShare ((dat m c).before 2 t0_0 d)) := by
  unfold Dat.leavesExact; rw [idle2_0, flush2_0]
theorem leaves2_1 (c : Dev nD) : (dat m c).leavesExact 2 t0_1
    = owns c ((cfg m c).win 2 |>.stage ((cfg m c).slots t0_1 2)) fullShare ((dat m c).after 2 t0_1) := by
  unfold Dat.leavesExact; rw [idle2_1]

/-- The first point. -/
theorem point₀ (c : Dev nD) (R : sProp (MT nD τ sig Unit (Elt F) ℕ UU ℕ)) :
    iprop(inv m c 0 ∗ owing c (owed₀ c) ∗ whole c cc0_stg0_0 (XB m c 0) ∗ whole c cc0_stg1_0 (YB m c 0) ∗ R)
      ⊢ runs c (defs₀ .tc 0 (t0_0, slots₀ m c))
        fun _ => iprop(inv m c 1 ∗ owing c (copiesOwed c all7) ∗ whole c cc0_stg0_0 (XB m c 0) ∗ whole c cc0_stg1_0 (YB m c 0) ∗ R) := by
  unfold inv
  rw [if_pos rfl, if_neg (by decide), if_pos rfl]
  iintro ⟨⟨⟨%K, Hst⟩, Ht⟩, HO, Hx, Hy, HR⟩
  iapply (first_point (XB m) (YB m) c K)
  isplitl [Hst]; · iexact Hst
  isplitl [HO]; · iexact HO
  isplitl [Hx]; · iexact Hx
  isplitl [Hy]; · iexact Hy
  iintro ⟨Hm, HO, Hx, Hy⟩
  isplitl [Hm Ht]
  · isplitl [Hm]; · iexists K; iexact Hm
    iexact Ht
  isplitl [HO]; · iexact HO
  isplitl [Hx]; · iexact Hx
  isplitl [Hy]; · iexact Hy
  iexact HR

/-- The second point. -/
theorem point₁ (c : Dev nD) (g : AccC (F := F)) :
    iprop(inv m c 1 ∗ owing c (copiesOwed c all7) ∗ whole c cc0_stg0_1 (XB m c 1) ∗ whole c cc0_stg1_1 (YB m c 1) ∗ whole c cc0_stg2_0 g)
      ⊢ runs c (defs₀ .tc 0 (t0_1, slots₁ m c))
        fun _ => iprop(inv m c 2 ∗ owing c 0 ∗ whole c cc0_stg0_1 (XB m c 1) ∗ whole c cc0_stg1_1 (YB m c 1)
          ∗ whole c cc0_stg2_0 (res (XB m) (YB m) c)) := by
  unfold inv
  rw [if_neg (by decide), if_pos rfl, if_neg (by decide), if_neg (by decide)]
  iintro ⟨⟨⟨%K, Hst⟩, Ht⟩, HO, Hx, Hy, HR⟩
  iapply (second_point (XB m) (YB m) c K g)
  isplitl [Hst]; · iexact Hst
  isplitl [HO]; · iexact HO
  isplitl [Hx]; · iexact Hx
  isplitl [Hy]; · iexact Hy
  isplitl [HR]; · iexact HR
  iintro ⟨Hm, HO, Hx, Hy, HR⟩
  isplitl [Hm Ht]
  · isplitl [Hm]; · iexact Hm
    iexact Ht
  isplitl [HO]; · iexact HO
  isplitl [Hx]; · iexact Hx
  isplitl [Hy]; · iexact Hy
  iexact HR

theorem read0_0 (c : Dev nD) (d) :
    (owns c ((cfg m c).win 0 |>.stage (slots₀ m c 0)) fullShare ((dat m c).before 0 t0_0 d) : sProp 𝕄) ⊢ whole c cc0_stg0_0 (XB m c 0) := by
  rw [before0_0]; exact owns_open c cc0_stg0_0 (XB m c 0)
theorem keep0_0 (c : Dev nD) : (whole c cc0_stg0_0 (XB m c 0) : sProp 𝕄) ⊢ (dat m c).leavesExact 0 t0_0 :=
  owns_make c cc0_stg0_0 (XB m c 0)
theorem read0_1 (c : Dev nD) (d) :
    (owns c ((cfg m c).win 0 |>.stage (slots₁ m c 0)) fullShare ((dat m c).before 0 t0_1 d) : sProp 𝕄) ⊢ whole c cc0_stg0_1 (XB m c 1) := by
  rw [before0_1]; exact owns_open c cc0_stg0_1 (XB m c 1)
theorem keep0_1 (c : Dev nD) : (whole c cc0_stg0_1 (XB m c 1) : sProp 𝕄) ⊢ (dat m c).leavesExact 0 t0_1 :=
  (owns_make c cc0_stg0_1 (XB m c 1)).trans (Entails.of_eq
    (congrArg (fun q => (owns c ((cfg m c).win 0 |>.stage q) fullShare (XB m c 1) : sProp 𝕄)) (slot0_1 m c).symm))
theorem read1_0 (c : Dev nD) (d) :
    (owns c ((cfg m c).win 1 |>.stage (slots₀ m c 1)) fullShare ((dat m c).before 1 t0_0 d) : sProp 𝕄) ⊢ whole c cc0_stg1_0 (YB m c 0) := by
  rw [before1_0]; exact owns_open c cc0_stg1_0 (YB m c 0)
theorem keep1_0 (c : Dev nD) : (whole c cc0_stg1_0 (YB m c 0) : sProp 𝕄) ⊢ (dat m c).leavesExact 1 t0_0 :=
  owns_make c cc0_stg1_0 (YB m c 0)
theorem read1_1 (c : Dev nD) (d) :
    (owns c ((cfg m c).win 1 |>.stage (slots₁ m c 1)) fullShare ((dat m c).before 1 t0_1 d) : sProp 𝕄) ⊢ whole c cc0_stg1_1 (YB m c 1) := by
  rw [before1_1]; exact owns_open c cc0_stg1_1 (YB m c 1)
theorem keep1_1 (c : Dev nD) : (whole c cc0_stg1_1 (YB m c 1) : sProp 𝕄) ⊢ (dat m c).leavesExact 1 t0_1 :=
  (owns_make c cc0_stg1_1 (YB m c 1)).trans (Entails.of_eq
    (congrArg (fun q => (owns c ((cfg m c).win 1 |>.stage q) fullShare (YB m c 1) : sProp 𝕄)) (slot1_1 m c).symm))
theorem read2_1 (c : Dev nD) (d) :
    (owns c ((cfg m c).win 2 |>.stage (slots₁ m c 2)) fullShare ((dat m c).before 2 t0_1 d) : sProp 𝕄) ⊢ whole c cc0_stg2_0 ((dat m c).before 2 t0_1 d) :=
  owns_open c cc0_stg2_0 _

/-- The body takes the device from each point to the next. -/
theorem body_ok (c : Dev nD) : BodyObligation (dat m c) defs₀ 𝒱₀ () Set.univ := fun t => by
  show iprop((dat m c).Φ t.castSucc ∗ (dat m c).owesAt () t.castSucc
        ∗ bigSep Finset.univ fun w => iprop(∃ d, owns c ((cfg m c).win w |>.stage ((cfg m c).slots t w)) fullShare ((dat m c).before w t d)))
    ⊢ wp frame (wpE defs₀ 𝒱₀ c none) Set.univ (defs₀ .tc 0 (t, (cfg m c).slots t)) fun _ =>
      iprop((dat m c).Φ t.succ ∗ (dat m c).owesAt () t.succ ∗ bigSep Finset.univ fun w => (dat m c).leavesExact w t)
  rw [bigSep_W0, bigSep_W0]
  rcases fin_N0 t with rfl | rfl
  · rw [leaves2_0, slots₀_eq]
    refine BIBase.Entails.trans ?_ ((point₀ m c iprop(∃ d, owns c ((cfg m c).win 2 |>.stage (slots₀ m c 2)) fullShare ((dat m c).before 2 t0_0 d))).trans
      (wp_mono _ _ _ fun _ => ?_))
    · exact BIClass.sep_mono (Entails.of_eq rfl) <| BIClass.sep_mono (owesAt_open m c t0_0.castSucc) <|
        BIClass.sep_mono (exists_elim fun d => read0_0 m c d) <| BIClass.sep_mono (exists_elim fun d => read1_0 m c d) .rfl
    · exact BIClass.sep_mono (Entails.of_eq rfl) <| BIClass.sep_mono (owesAt_make m c t0_0.succ) <|
        BIClass.sep_mono (keep0_0 m c) <| BIClass.sep_mono (keep1_0 m c) .rfl
  · rw [leaves2_1, slots₁_eq]
    refine BIBase.Entails.trans (Q := iprop(∃ g, inv m c 1 ∗ owing (F := F) c (owedAt c 1) ∗ whole c cc0_stg0_1 (XB m c 1) ∗ whole c cc0_stg1_1 (YB m c 1) ∗ whole c cc0_stg2_0 g)) ?_
      (exists_elim fun g => (point₁ m c g).trans (wp_mono _ _ _ fun _ => ?_))
    · refine BIBase.Entails.trans (BIClass.sep_mono (Entails.of_eq rfl) <| BIClass.sep_mono (owesAt_open m c t0_1.castSucc) <|
        BIClass.sep_mono (exists_elim fun d => read0_1 m c d) <| BIClass.sep_mono (exists_elim fun d => read1_1 m c d)
          (exists_mono fun d => read2_1 m c d)) ?_
      show iprop(inv m c 1 ∗ owing (F := F) c (owedAt c 1) ∗ whole c cc0_stg0_1 (XB m c 1) ∗ whole c cc0_stg1_1 (YB m c 1)
        ∗ ∃ d, whole c cc0_stg2_0 ((dat m c).before 2 t0_1 d)) ⊢ _
      iintro ⟨HΦ, HO, Hx, Hy, %d, HR⟩
      iexists _
      isplitl [HΦ]; · iexact HΦ
      isplitl [HO]; · iexact HO
      isplitl [Hx]; · iexact Hx
      isplitl [Hy]; · iexact Hy
      iexact HR
    · exact BIClass.sep_mono (Entails.of_eq rfl) <| BIClass.sep_mono (owesAt_make m c t0_1.succ) <|
        BIClass.sep_mono (keep0_1 m c) <| BIClass.sep_mono (keep1_1 m c) (owns_make c cc0_stg2_0 (res (XB m) (YB m) c))

end Data

end Cert.RowSums

end

end
-- ==== Proof.Region.lean ====
/-
# The region

The kernel's call as a region of the program: what a device enters it with, what it leaves with, and how the
cells of the exchange are opened on the way in.
-/
module

public import proofs.«01_k».proof.Proof.Data
public import Idealize.ShloMosaic.Lib.Pipeline.Regions
public import Idealize.ShloMosaic.Lib.Pipeline.Frame

@[expose] public section

noncomputable section

namespace Cert.RowSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat)

section Region
variable (m : (ℓ : Loc nD τ sig) → Buf (Elt F) ℓ)

/-- The tables' contents, by device. -/
abbrev adms : Dev nD → (p : Fin 1) → (pcfgs (F := F) p).Adm := fun c => adm m c
/-- The region's data, by device. -/
def pdats : (p : Fin 1) → (c : Dev nD) → Dat τ (Elt F) Unit ℕ UU ℕ (Pipeline.pinD (pcfgs (F := F)) (adms m) c p) c
  | 0 => fun c => dat m c
  | ⟨_ + 1, h⟩ => absurd h (Nat.not_lt.2 (Nat.le_add_left _ _))

/-- The device's right to open its own cells, and the duties that it will pay. -/
def rights (c : Dev nD) : sProp 𝕄 :=
  iprop(atPos ER (barCell c) 0 ∅ 0
    ∗ (bigSep Finset.univ fun s : Fin 7 => openTok ER (sendCell c s))
    ∗ (bigSep Finset.univ fun s : Fin 7 => openTok ER (recvCell c s))
    ∗ signalToks c ∗ copyToks c)
/-- What it will be paid. -/
def dues (c : Dev nD) : sProp 𝕄 :=
  iprop(cred (tallyAt (barCell c) () 7) ∗ bigSep Finset.univ fun s : Fin 7 => cred (tallyAt (recvCell c s) () N))

/-- What rides along the host operations. -/
def rides (c : Dev nD) : sProp 𝕄 :=
  iprop((∃ K, records (sent (XB m) (YB m)) K ∗ rights c) ∗ dues c ∗ owing c (owed₀ c))
/-- What enters the kernel beside its buffers. -/
def entering (c : Dev nD) : sProp 𝕄 :=
  iprop(∃ K, records (sent (XB m) (YB m)) K ∗ levAts L lv ∗ talking c ∗ signalToks c)

omit [FloatOps F] in
/-- A family of own cells, opened. -/
theorem open_cells (S : Dev nD → OutC (F := F)) (K : GSem nD τ sig → ℕ) (g : Fin 7 → GSem nD τ sig)
    (hg : ∀ s, g s ∈ (barCells ∪ ownCells : Finset (GSem nD τ sig))) :
    iprop(records S K ∗ (bigSep Finset.univ fun s : Fin 7 => openTok ER (g s)) ∗ (bigSep Finset.univ fun s : Fin 7 => semVal (g s) 0))
      ⊢ (|={Set.univ}=> iprop((bigSep Finset.univ fun s : Fin 7 => atPos ER (g s) 0 ∅ 0)
          ∗ bigSep Finset.univ fun s : Fin 7 => reached ER (g s) 0) : sProp 𝕄) := by
  have h (s : Fin 7) (_ : s ∈ (Finset.univ : Finset (Fin 7))) :
      iprop(records S K ∗ (openTok ER (g s) ∗ semVal (g s) 0))
        ⊢ (|={Set.univ}=> iprop(atPos ER (g s) 0 ∅ 0 ∗ reached ER (g s) 0) : sProp 𝕄) := by
    iintro ⟨#HR, Ho, Hv⟩
    iapply (Rounds.cell_open ER (plan S) (g := g s) (Set.mem_univ (K (g s))))
    isplitr; · iapply (inv_at S K (hg s)); iexact HR
    isplitl [Ho] <;> iassumption
  rw [← bigSep_sep', ← bigSep_sep']
  exact BIBase.Entails.trans (bigSep_with_persistent h) (bigSep_fupd Finset.univ _)

omit [FloatOps F] in
theorem bigSep_two (Φ : Bool → sProp 𝕄) : bigSep Finset.univ Φ = iprop(Φ false ∗ Φ true) := by
  rw [show (Finset.univ : Finset Bool) = {false, true} from by decide, bigSep_insert (by decide), bigSep_singleton]; rfl

omit [FloatOps F] in
/-- The own semaphores are the seven send cells and the seven receive cells. -/
theorem ownSems_eq (c : Dev nD) : (Pipeline.ownSems0 osem c : sProp 𝕄)
    = iprop((bigSep Finset.univ fun s : Fin 7 => semVal (sendCell c s) 0) ∗ bigSep Finset.univ fun s : Fin 7 => semVal (recvCell c s) 0) := by
  unfold Pipeline.ownSems0
  rw [bigSep_univ_prod, bigSep_two]; rfl

/-- The way in: the own cells opened. -/
theorem open_own (c : Dev nD) (K : GSem nD τ sig → ℕ) :
    iprop((records (sent (XB m) (YB m)) K ∗ rights c) ∗ dues c ∗ Pipeline.ownSems0 osem c ∗ levAts L lv)
      ⊢ (|={Set.univ}=> entering m c : sProp 𝕄) := by
  rw [ownSems_eq]
  unfold rights dues entering talking
  iintro ⟨⟨#HR, Hb, Hos, Hor, Hst, Hct⟩, ⟨Hcb, Hcr⟩, ⟨Hvs, Hvr⟩, #Hlev⟩
  imod (open_cells (sent (XB m) (YB m)) K (sendCell c) (send_mem c)) $$ [Hos Hvs] with ⟨Has, Hrs⟩
  · isplitr; · iexact HR
    isplitl [Hos] <;> iassumption
  imod (open_cells (sent (XB m) (YB m)) K (recvCell c) (recv_mem c)) $$ [Hor Hvr] with ⟨Har, Hrr⟩
  · isplitr; · iexact HR
    isplitl [Hor] <;> iassumption
  imodintro
  iexists K
  isplitr; · iexact HR
  isplitr; · iexact Hlev
  isplitr [Hst]
  · isplitl [Hb]; · iexact Hb
    isplitl [Has]; · iexact Has
    isplitl [Har]; · iexact Har
    isplitl [Hrs]; · iexact Hrs
    isplitl [Hrr]; · iexact Hrr
    isplitl [Hct]; · iexact Hct
    isplitl [Hcb] <;> iassumption
  iexact Hst

/-- A device may wait for its staging copies whatever it owes at the time. -/
theorem owedAt_above {c : Dev nD} {n : ℕ} {g : GSem nD τ sig} {u : Unit} (h : 0 < owedAt c n g u) : u ∈ L g ∧ 0 < lv g u := by
  unfold owedAt at h
  split at h
  · exact owed₀_above h
  · split at h
    · exact ⟨(copies_above h).1, Nat.lt_trans Nat.one_pos (copies_above h).2⟩
    · exact absurd h (Nat.lt_irrefl 0)

theorem stage_level : ∀ (w : Fin 3) (s : Fin (spec0 w).nbuf), ¬ 12 ≤ ((spec0 w).sem s).val := by decide

theorem waits_ok (c : Dev nD) :
    (levAts L lv : sProp 𝕄) ⊢ Pipeline.PerCore.cellsWaits (Pipeline.pinD (pcfgs (F := F)) (adms m)) (pdats m) () 0 c :=
  Pipeline.PerCore.cellsWaits_intro _ (pdats m) () 0 c fun w s t =>
    MayOwe.of_cut (L := L) (lev := lv) 0
      (fun p hp => by rw [Finset.mem_singleton.mp hp, L_tc]; exact Finset.mem_singleton_self _)
      (fun g u hg => (owedAt_above hg).1)
      (fun p hp => by rw [Finset.mem_singleton.mp hp]; exact Nat.le_of_eq (if_neg (stage_level w s)))
      (fun g u hg => (owedAt_above hg).2)

/-- The buffers that the kernel neither reads nor writes. -/
abbrev others (c : Dev nD) : sProp 𝕄 := Pipeline.unscopedRestP pre0 spec0 c fun b => V1 m c b

/-- What the region leaves. -/
def leaving (c : Dev nD) : sProp 𝕄 :=
  iprop((dat m c).arrays ((dat m c).arrAt · (cfg m c).N) ∗ others m c ∗ table m c ∗ semVal (barCell c) 0)

/-- The buffers, sorted. -/
theorem buffers_sorted (c : Dev nD) :
    (StableHlo.held (c : Thread nD τ) (Pipeline.ucRefs τ sig) (V1 m c) : sProp 𝕄)
      ⊢ iprop((dat m c).arrays ((dat m c).arrAt · 0) ∗ table m c ∗ others m c) := by
  have h0 : (StableHlo.held (c : Thread nD τ) (Pipeline.ucRefs τ sig) (V1 m c) : sProp 𝕄) = unscopedBufs c (fun b => V1 m c b) :=
    (Pipeline.unscopedBufs_held (Ix := Unit) (Name := ℕ) (U := UU) (Lvl := ℕ) c (V1 m c)).symm
  rw [h0]
  refine BIBase.Entails.trans (Pipeline.PerCore.arrays_of_unscopedBufs (pcfgs (F := F)) (adms m) (pdats m) (p := 0) winFacts0 arr_whole0 c
    (fun w => by match w with | 0 => rfl | 1 => rfl | 2 => rfl) (fun b => V1 m c b) (fun w => by match w with | 0 => rfl | 1 => rfl | 2 => rfl)) ?_
  refine BIClass.sep_mono (Entails.of_eq rfl) (Entails.of_eq ?_)
  exact Pipeline.unscopedRest_split preFacts0 c (fun b => V1 m c b)

set_option backward.isDefEq.respectTransparency.types false in
/-- The kernel's call as a region. -/
def region : Pipeline.PerCore.RegionSeg (pcfgs (F := F)) (adms m) (pdats m) () defs₀ 𝒱₀ L lv 0 where
  win := winFacts0.to₀
  block_pos := block_pos0
  stage_whole := stage_whole0
  K := Bool × Fin 7
  osem := osem
  ho := (by decide : Pipeline.OwnSemFacts spec0 osem)
  hbody c := (body_ok m c).loose
  hwaits c := waits_ok m c
  pre c := iprop(StableHlo.held (c : Thread nD τ) (Pipeline.ucRefs τ sig) (V1 m c) ∗ rides m c)
  post c := iprop(leaving m c ∗ ∃ W, owes (c : Thread nD τ) (0 : CellTallies nD τ sig Unit) W)
  X c := entering m c
  Y c := iprop(table m c ∗ semVal (barCell c) 0)
  Z c := others m c
  hentry c := by
    show iprop((StableHlo.held (c : Thread nD τ) (Pipeline.ucRefs τ sig) (V1 m c) ∗ rides m c) ∗ Pipeline.ownSems0 osem c ∗ levAts L lv)
      ⊢ |={Set.univ}=> iprop((dat m c).arrays ((dat m c).arrAt · 0) ∗ table m c ∗ (dat m c).owesAt () 0 ∗ entering m c ∗ others m c)
    unfold rides
    iintro ⟨⟨Hh, ⟨%K, HRr⟩, Hd, HO⟩, Hos, Hlev⟩
    imod (open_own m c K) $$ [HRr Hd Hos Hlev] with HE
    · isplitl [HRr]; · iexact HRr
      isplitl [Hd]; · iexact Hd
      isplitl [Hos] <;> iassumption
    imodintro
    ihave Hs := (buffers_sorted m c) $$ Hh
    icases Hs with ⟨Ha, Ht, Hr⟩
    isplitl [Ha]; · iexact Ha
    isplitl [Ht]; · iexact Ht
    isplitl [HO]; · iapply (owesAt_make m c 0); iexact HO
    isplitl [HE]; · iexact HE
    iexact Hr
  hin c := by
    show iprop(entering m c ∗ table m c ∗ Pipeline.scopedRest spec0 c) ⊢ inv m c 0
    rw [scopedRest0_eq]
    unfold inv entering start
    rw [if_pos rfl]
    iintro ⟨⟨%K, HR, Hlev, Htk, Hst⟩, Ht, Hs0, Hs1, Hs2⟩
    isplitr [Ht]
    · iexists K
      isplitl [HR]; · iexact HR
      isplitl [Hlev]; · iexact Hlev
      isplitl [Htk]; · iexact Htk
      isplitl [Hst]; · iexact Hst
      isplitl [Hs0]; · iexact Hs0
      isplitl [Hs1]; · iexact Hs1
      iexact Hs2
    iexact Ht
  hout c := by
    show inv m c 2 ⊢ iprop((table m c ∗ semVal (barCell c) 0) ∗ Pipeline.ownSems0 osem c ∗ Pipeline.scopedRest spec0 c)
    rw [scopedRest0_eq, ownSems_eq]
    unfold inv finish
    rw [if_neg (by decide), if_neg (by decide)]
    iintro ⟨⟨-, Hs0, Hs1, Hs2, Hb, Hvs, Hvr⟩, Ht⟩
    isplitl [Ht Hb]; · isplitl [Ht] <;> iassumption
    isplitl [Hvs Hvr]; · isplitl [Hvs] <;> iassumption
    isplitl [Hs0]; · iexists _; iexact Hs0
    isplitl [Hs1]; · iexists _; iexact Hs1
    iexists _; iexact Hs2
  hexit c := by
    show iprop((dat m c).arrays ((dat m c).arrAt · (cfg m c).N) ∗ (dat m c).owesAt () (Fin.last (cfg m c).N) ∗ (table m c ∗ semVal (barCell c) 0) ∗ others m c)
      ⊢ |={Set.univ}=> iprop(leaving m c ∗ ∃ W, owes (c : Thread nD τ) (0 : CellTallies nD τ sig Unit) W)
    unfold leaving
    iintro ⟨Ha, HO, ⟨Ht, Hb⟩, Hr⟩
    imodintro
    isplitr [HO]
    · isplitl [Ha]; · iexact Ha
      isplitl [Hr]; · iexact Hr
      isplitl [Ht] <;> iassumption
    iapply (show (dat m c).owesAt () (Fin.last (cfg m c).N) ⊢ iprop(∃ W, owes (c : Thread nD τ) (0 : CellTallies nD τ sig Unit) W)
      from owesAt_open m c (Fin.last (cfg m c).N)); iexact HO

end Region

end Cert.RowSums

end

end
-- ==== Proof.Run.lean ====
/-
# The run

What the region leaves in the arrays, how the launch deals every device its share of the exchange, and the run of the
whole program: it ends, with the arguments unchanged, the result read off what all devices sent, and every counter at zero.
-/
module

public import proofs.«01_k».proof.Proof.Region

@[expose] public section

noncomputable section

namespace Cert.RowSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Seg HostSeg)

section Final
variable (m : (ℓ : Loc nD τ sig) → Buf (Elt F) ℓ)

/-- The result window's one block is the whole array. -/
theorem emb2 (c : Dev nD) (t : Fin grid0.N) (j : S2x2048.Idx) : (((cfg m c).win 2).blk t).view.emb j = j := by
  have e0 : ((cfg m c).win 2).index t (0 : Fin 2) = 0 := rfl
  have e1 : ((cfg m c).win 2).index t (1 : Fin 2) = 0 := rfl
  funext a; apply Fin.ext
  match a with
  | ⟨0, _⟩ => show ((cfg m c).win 2).index t (0 : Fin 2) * 2 + 1 * (j 0).val = (j 0).val; omega
  | ⟨1, _⟩ => show ((cfg m c).win 2).index t (1 : Fin 2) * 2048 + 1 * (j 1).val = (j 1).val; omega

theorem flush2_1 (c : Dev nD) : ((cfg m c).win 2).flush t0_1 = true := by
  unfold Pipeline.Window.flush
  rw [Bool.and_eq_true, Bool.or_eq_true]
  exact ⟨rfl, Or.inl (decide_eq_true (show t0_1.val + 1 = grid0.N from rfl))⟩

/-- The result array ends at the sum over all devices. -/
theorem final2 (c : Dev nD) : (dat m c).arrAt 2 (cfg m c).N = res (XB m) (YB m) c :=
  (dat m c).arrAt_eq_of_cover 2 (res (XB m) (YB m) c)
    (fun t _ => funext fun j => congrArg (res (XB m) (YB m) c) (emb2 m c t j).symm)
    fun i => ⟨t0_1, flush2_1 m c, by
      have h := (((cfg m c).win 2).blk t0_1).view.emb_mem_set i
      exact Eq.mp (congrArg (· ∈ (((cfg m c).win 2).blk t0_1).view.set) (emb2 m c t0_1 i)) h⟩

theorem final0 (c : Dev nD) : (dat m c).arrAt 0 (cfg m c).N = m ((c : Thread nD τ).loc main_arg0) :=
  ((dat m c).arrAt_in 0 rfl _).trans ((V1_of m c main_arg0 (by decide)).trans rfl)
theorem final1 (c : Dev nD) : (dat m c).arrAt 1 (cfg m c).N = m ((c : Thread nD τ).loc main_arg1) :=
  ((dat m c).arrAt_in 1 rfl _).trans ((V1_of m c main_arg1 (by decide)).trans rfl)
end Final

/-! ## The tokens, dealt -/

/-- Every duty's token: each barrier cell's seven, each own cell's one. -/
def allToks : Finset (GSem nD τ sig × ℕ × Fin 7) :=
  Finset.univ.map ⟨fun x : Dev nD × (Fin 7 ⊕ (Bool × Fin 7)) => match x.2 with
    | .inl s => (barCell x.1, 0, s)
    | .inr k => (((x.1 : Thread nD τ), osem k), 0, 0), by
      rintro ⟨c, a⟩ ⟨c', a'⟩ h
      match a, a', h with
      | .inl s, .inl s', h =>
        obtain rfl : c = c' := congrArg (fun t : GSem nD τ sig × ℕ × Fin 7 => t.1.1.1) h
        obtain rfl : s = s' := congrArg (fun t : GSem nD τ sig × ℕ × Fin 7 => t.2.2) h
        rfl
      | .inl s, .inr k', h => exact absurd (congrArg (fun t : GSem nD τ sig × ℕ × Fin 7 => t.1.2) h) (fun e => nomatch e)
      | .inr k, .inl s', h => exact absurd (congrArg (fun t : GSem nD τ sig × ℕ × Fin 7 => t.1.2) h) (fun e => nomatch e)
      | .inr k, .inr k', h =>
        obtain rfl : c = c' := congrArg (fun t : GSem nD τ sig × ℕ × Fin 7 => t.1.1.1) h
        obtain rfl : k = k' := osem_inj (congrArg (fun t : GSem nD τ sig × ℕ × Fin 7 => t.1.2) h)
        rfl⟩

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact absurd (congrArg Prod.snd h) (fun e => nomatch e)

omit [FloatOps F] in
theorem toks_eq : bigSep allToks (fun x => (dutyTok ER x.1 x.2.1 x.2.2 : sProp 𝕄))
    = bigSep Finset.univ fun c : Dev nD => iprop((bigSep Finset.univ fun s : Fin 7 => dutyTok ER (barCell c) 0 s)
        ∗ (bigSep Finset.univ fun s : Fin 7 => dutyTok ER (sendCell c s) 0 0) ∗ bigSep Finset.univ fun s : Fin 7 => dutyTok ER (recvCell c s) 0 0) := by
  unfold allToks; rw [bigSep_map, bigSep_univ_prod]
  refine bigSep_congr fun c _ => ?_
  rw [BI.bigSep_univ_sum, bigSep_univ_prod, bigSep_two]; rfl

omit [FloatOps F] in
/-- A family over the devices and the seven, read at the peers. -/
theorem around (Φ : Dev nD → Fin 7 → sProp 𝕄) :
    (bigSep Finset.univ fun c : Dev nD => bigSep Finset.univ fun s : Fin 7 => Φ c s)
      = bigSep Finset.univ fun c : Dev nD => bigSep Finset.univ fun s : Fin 7 => Φ (peer s c) s := by
  rw [← bigSep_univ_prod (fun x : Dev nD × Fin 7 => Φ x.1 x.2), ← bigSep_univ_prod (fun x : Dev nD × Fin 7 => Φ (peer x.2 x.1) x.2)]
  exact bigSep_univ_equiv (⟨fun x => (peer x.2 x.1, x.2), fun x => (peer x.2 x.1, x.2),
    fun x => Prod.ext (peer_peer x.2 x.1) rfl, fun x => Prod.ext (peer_peer x.2 x.1) rfl⟩ : Dev nD × Fin 7 ≃ Dev nD × Fin 7) (fun x => Φ x.1 x.2)

omit [FloatOps F] in
/-- The tokens go to the devices that pay: a barrier's and a receive cell's to the peer. -/
theorem toks_around :
    (bigSep Finset.univ fun c : Dev nD => iprop((bigSep Finset.univ fun s : Fin 7 => dutyTok ER (barCell c) 0 s)
        ∗ (bigSep Finset.univ fun s : Fin 7 => dutyTok ER (sendCell c s) 0 0) ∗ bigSep Finset.univ fun s : Fin 7 => dutyTok ER (recvCell c s) 0 0) : sProp 𝕄)
      ⊢ bigSep Finset.univ fun c : Dev nD => iprop(signalToks c ∗ copyToks c) := by
  refine Entails.of_eq ?_
  unfold signalToks copyToks
  simp only [bigSep_sep']
  rw [around (fun c s => (dutyTok ER (barCell c) 0 s : sProp 𝕄)), around (fun c s => (dutyTok ER (recvCell c s) 0 0 : sProp 𝕄))]

/-! ## The launch's credit -/

theorem tally_list (f : Fin 7 → GSem nD τ sig) (n : ℕ) (g : GSem nD τ sig) (u : Unit) (l : List (Fin 7)) :
    (l.map fun s => (tallyAt (f s) () n : CellTallies nD τ sig Unit)).sum g u = (l.map fun s => if g = f s then n else 0).sum := by
  induction l with
  | nil => rfl
  | cons s l ih =>
    rw [List.map_cons, List.sum_cons, List.map_cons, List.sum_cons, Pi.add_apply, Finsupp.add_apply, ih, tallyAt_apply]
    simp

theorem bar_inj {c d : Dev nD} : barCell c = barCell d ↔ c = d :=
  ⟨fun h => congrArg (fun g : GSem nD τ sig => g.1.1) h, fun h => by rw [h]⟩
theorem recv_inj {c d : Dev nD} {s t : Fin 7} : recvCell c s = recvCell d t ↔ c = d ∧ s = t :=
  ⟨fun h => ⟨congrArg (fun g : GSem nD τ sig => g.1.1) h, by
    have e : recvS s = recvS t := SemLoc.dma.inj (congrArg Prod.snd h)
    have e' : 12 + s.val = 12 + t.val := congrArg Fin.val e
    exact Fin.ext (by omega)⟩, fun h => by rw [h.1, h.2]⟩

theorem bar_ne_recv {c d : Dev nD} {s : Fin 7} (h : barCell c = recvCell d s) : False := by
  have e : SemLoc.reg barS = (SemLoc.dma (recvS s) : SemLoc sig) := congrArg Prod.snd h
  exact nomatch e

theorem owed_bar (d c : Dev nD) : owed₀ d (barCell c) () = if d = c then 0 else 1 := by
  unfold owed₀ copiesOwed signalsOwed
  rw [Pi.add_apply, Finsupp.add_apply, tally_list, tally_list]
  have h (s : Fin 7) : (if barCell c = recvCell (peer s d) s then N else 0) = 0 :=
    if_neg fun e => bar_ne_recv e
  simp only [h, bar_inj]
  revert d c; decide
theorem owed_recv (d c : Dev nD) (s : Fin 7) : owed₀ d (recvCell c s) () = if d = peer s c then N else 0 := by
  unfold owed₀ copiesOwed signalsOwed
  rw [Pi.add_apply, Finsupp.add_apply, tally_list, tally_list]
  have h (t : Fin 7) : (if recvCell c s = barCell (peer t d) then 1 else 0) = 0 :=
    if_neg fun e => bar_ne_recv e.symm
  simp only [h, recv_inj]
  generalize N = n
  have hp : ∀ t : Fin 7, (c = peer t d ∧ s = t) ↔ (d = peer s c ∧ t = s) := fun t =>
    ⟨fun ⟨h1, h2⟩ => by subst h2; exact ⟨by rw [h1, peer_peer], rfl⟩, fun ⟨h1, h2⟩ => by subst h2; exact ⟨by rw [h1, peer_peer], rfl⟩⟩
  simp only [hp]
  by_cases hd : d = peer s c
  · simp only [hd, true_and, if_true]
    fin_cases s <;> simp
  · simp [hd]

theorem launch_bar (c : Dev nD) :
    tallyOn (barCell c) (launchCredit (Pipeline.owing owed₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c : Dev nD) (s : Fin 7) :
    tallyOn (recvCell c s) (launchCredit (Pipeline.owing owed₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (peer s c) fun _ => N, if_pos (Finset.mem_univ _)]

/-- The semaphores of the receive cells. -/
def recvEmb : Fin 7 ↪ SemLoc sig := ⟨fun s => .dma (recvS s), by decide⟩

omit [FloatOps F] in
theorem creds (c : Dev nD) : (Pipeline.launchCred owed₀ c : sProp 𝕄) ⊢ dues c := by
  unfold Pipeline.launchCred dues
  rw [bigSep_univ_at _ (SemLoc.reg barS), launch_bar]
  refine sep_mono_right ?_
  have h : (Finset.univ.map recvEmb : Finset (SemLoc sig)) ⊆ Finset.univ.erase (SemLoc.reg barS) := fun x hx => by
    obtain ⟨s, -, rfl⟩ := Finset.mem_map.mp hx
    exact Finset.mem_erase.mpr ⟨(by decide : ∀ s, recvEmb s ≠ SemLoc.reg barS) s, Finset.mem_univ _⟩
  refine BIBase.Entails.trans (BI.bigSep_subset h) (Entails.of_eq ?_)
  rw [bigSep_map]
  exact bigSep_congr fun s _ => congrArg _ (launch_recv c s)

/-! ## The launch -/

/-- The staging cells are distinct on every device. -/
theorem stage_inj (m : (ℓ : Loc nD τ sig) → Buf (Elt F) ℓ) :
    Function.Injective (Pipeline.PerCore.cellOf (nD := nD) (τ := τ) (Pipeline.pinD (pcfgs (F := F)) (adms m))) :=
  Pipeline.PerCore.cellOf_injective _
    (fun _ p => by
      obtain rfl : p = 0 := Subsingleton.elim _ _
      exact (by decide : Pipeline.SpecSemsDistinct spec0))
    fun _ p p' h => absurd (Subsingleton.elim p p') h

/-- The kit's share of the launch's ghost state. -/
abbrev kitShare (m : (ℓ : Loc nD τ sig) → Buf (Elt F) ℓ) :=
  initOf (Pipeline.PerCore.cells (Pipeline.pinD (pcfgs (F := F)) (adms m)) (stage_inj m))
    (Pipeline.PerCore.launchToks (Pipeline.pinD (pcfgs (F := F)) (adms m)) (stage_inj m))

/-- The launch's ghost state: the kit's, and the exchange's. -/
def ghost₀ (m : (ℓ : Loc nD τ sig) → Buf (Elt F) ℓ) : UU := (kitShare m, launchOf barCells ownCells allToks)

/-- The exchange's share, all held at device 0 until it is dealt. -/
def parked (c : Dev nD) : sProp 𝕄 := if c = 0 then BI.own (ER (launchOf barCells ownCells allToks)) else iprop(emp)

omit [FloatOps F] in
theorem parked_eq : (bigSep Finset.univ fun c : Dev nD => (parked c : sProp 𝕄)) = BI.own (ER (launchOf barCells ownCells allToks)) := by
  rw [bigSep_univ_at _ (0 : Dev nD), bigSep_congr (s := Finset.univ.erase (0 : Dev nD)) (Φ := fun c => (parked c : sProp 𝕄)) (Ψ := fun _ => (BI.emp : sProp 𝕄))
    (fun c hc => if_neg (Finset.ne_of_mem_erase hc)), BI.bigSep_emp_const]
  unfold parked; rw [if_pos rfl]
  exact BI.equiv_iff.mp sep_emp

theorem unscoped_bar : ∀ sm : SemLoc sig, sm.isScoped .tc = false → sm = .reg barS := by decide

omit [FloatOps F] in
theorem counters_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

section Launch
variable (m : (ℓ : Loc nD τ sig) → Buf (Elt F) ℓ) (ρ : Dev nD → PrngReg)

/-- A device's state at the start of the program. -/
abbrev started (c : Dev nD) : sProp 𝕄 := iprop(StableHlo.held (c : Thread nD τ) (Pipeline.ucRefs τ sig) (V0 m c) ∗ rides m c)

/-- What a device has at launch beside the exchange's ghost state. -/
def dealt (c : Dev nD) : sProp 𝕄 :=
  iprop(StableHlo.held (c : Thread nD τ) (Pipeline.ucRefs τ sig) (V0 m c) ∗ dues c ∗ owing c (owed₀ c))

theorem started_of (K : GSem nD τ sig → ℕ) (c : Dev nD) :
    iprop(records (sent (XB m) (YB m)) K ∗ (rights c ∗ dealt m c)) ⊢ started m c := by
  unfold dealt started rides
  iintro ⟨HR, Hr, Hh, Hd, HO⟩
  isplitl [Hh]; · iexact Hh
  isplitl [HR Hr]
  · iexists K
    isplitl [HR] <;> iassumption
  isplitl [Hd] <;> iassumption

/-- One device's holdings at launch, sorted. -/
theorem sorted (c : Dev nD) : iprop(unscopedBufs c (fun b => m ((c : Thread nD τ).loc b)) ∗ unscopedSems0 c
      ∗ owes (c : Thread nD τ) (owed₀ c) ∅ ∗ Pipeline.launchCred owed₀ c ∗ prngReg c (ρ c) ∗ parked c)
    ⊢ (iprop(dealt m c ∗ (semVal (barCell c) 0 ∗ parked c)) : sProp 𝕄) := by
  rw [show (unscopedBufs c (fun b => m ((c : Thread nD τ).loc b)) : sProp 𝕄) = StableHlo.held (c : Thread nD τ) (Pipeline.ucRefs τ sig) (V0 m c)
    from Pipeline.unscopedBufs_held (Ix := Unit) (Name := ℕ) (U := UU) (Lvl := ℕ) c (V0 m c), counters_eq]
  unfold dealt owing
  iintro ⟨Hh, Hv, HO, Hc, -, Hp⟩
  isplitr [Hv Hp]
  · isplitl [Hh]; · iexact Hh
    isplitl [Hc]; · iapply (creds (F := F) c); iexact Hc
    iexists ∅; iexact HO
  isplitl [Hv] <;> iassumption

/-- The launch: the cells get their invariants, and every device its rights, its duties and what it is owed. -/
theorem dealing :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ parked c)) ∗ levAts L lv)
      ⊢ (|={Set.univ}=> bigSep Finset.univ (started m) : sProp 𝕄) := by
  have hv : (bigSep Finset.univ fun c : Dev nD => (semVal (barCell c) 0 : sProp 𝕄)) ⊢ bigSep barCells fun g => (semVal g 0 : sProp 𝕄) :=
    Entails.of_eq (bigSep_map (s := Finset.univ) barEmb (Φ := fun g : GSem nD τ sig => (semVal g 0 : sProp 𝕄))).symm
  have hat : (bigSep barCells fun g => (atPos ER g 0 ∅ 0 : sProp 𝕄)) ⊢ bigSep Finset.univ fun c : Dev nD => (atPos ER (barCell c) 0 ∅ 0 : sProp 𝕄) :=
    Entails.of_eq (bigSep_map (s := Finset.univ) barEmb (Φ := fun g : GSem nD τ sig => (atPos ER g 0 ∅ 0 : sProp 𝕄)))
  have hopen : (bigSep ownCells fun g => (openTok ER g : sProp 𝕄))
      ⊢ bigSep Finset.univ fun c : Dev nD => iprop((bigSep Finset.univ fun s : Fin 7 => openTok ER (sendCell c s))
          ∗ bigSep Finset.univ fun s : Fin 7 => openTok ER (recvCell c s)) :=
    Entails.of_eq (by
      rw [bigSep_map, bigSep_univ_prod]
      refine bigSep_congr fun c _ => ?_
      rw [bigSep_univ_prod, bigSep_two]; rfl)
  have hsort : (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ parked c))
      ⊢ (bigSep Finset.univ fun c : Dev nD => iprop(dealt m c ∗ (semVal (barCell c) 0 ∗ parked c)) : sProp 𝕄) :=
    bigSep_mono fun c _ => sorted m ρ c
  iintro ⟨H, -⟩
  ihave H := hsort $$ H
  ihave H := (Entails.of_eq (bigSep_sep' _ _ _)) $$ H; icases H with ⟨HB, H⟩
  ihave H := (Entails.of_eq (bigSep_sep' _ _ _)) $$ H; icases H with ⟨Hv, HG⟩
  ihave Hu := (Entails.of_eq (parked_eq (F := F))) $$ HG
  imod (Rounds.fund_launch ER (plan (sent (XB m) (YB m))) cells_disjoint (fun g _ h => h) allToks) $$ [Hv Hu] with ⟨%K, -, #Hinv, #Hr, Hat, Hopen, Htok⟩
  · isplitl [Hv]
    · iapply hv $$ Hv
    · iexact Hu
  imodintro
  iapply (bigSep_with_persistent (R := records (sent (XB m) (YB m)) K) (Φ := fun c => iprop(rights c ∗ dealt m c)) fun c _ => started_of m K c)
  isplitr
  · unfold records
    isplitr; · iexact Hinv
    iexact Hr
  iapply (Entails.of_eq (bigSep_sep' Finset.univ (fun c : Dev nD => (rights c : sProp 𝕄)) (dealt m)).symm)
  isplitr [HB]
  · iapply (show iprop((bigSep Finset.univ fun c : Dev nD => atPos ER (barCell c) 0 ∅ 0)
        ∗ (bigSep Finset.univ fun c : Dev nD => iprop((bigSep Finset.univ fun s : Fin 7 => openTok ER (sendCell c s))
          ∗ bigSep Finset.univ fun s : Fin 7 => openTok ER (recvCell c s)))
        ∗ bigSep Finset.univ fun c : Dev nD => iprop(signalToks c ∗ copyToks c)) ⊢ (bigSep Finset.univ fun c : Dev nD => (rights c : sProp 𝕄)) from by
      unfold rights
      simp only [bigSep_sep']
      iintro ⟨H1, ⟨H2, H3⟩, H4⟩
      isplitl [H1]; · iexact H1
      isplitl [H2]; · iexact H2
      isplitl [H3] <;> iassumption)
    isplitl [Hat]; · iapply hat $$ Hat
    isplitl [Hopen]; · iapply hopen $$ Hopen
    iapply (toks_around (F := F))
    iapply (Entails.of_eq (toks_eq (F := F))) $$ Htok
  · iexact HB

/-- The program's two segments on a device: the operations before the kernel, and the kernel. -/
def parts (c : Dev nD) : List (Pipeline.PerCore.Seg (pcfgs (F := F)) (adms m) (pdats m) () defs₀ 𝒱₀ L lv) :=
  [.host (HostSeg.ofOps _ _ _ _ _ (Pipeline.ucRefs τ sig) (hostOps0 c)
    (fun op h => Pipeline.sub_ucRefs op ((List.forall_iff_forall_mem.mp (hostOps0_sub c)) op h))
    (fun op h => (List.forall_iff_forall_mem.mp (hostOps0_fresh c)) op h) (V0 m) (rides m)), .region (region m)]

/-- What a final memory says at a device. -/
abbrev Ends (c : Dev nD) (s : MemSt nD τ sig (Elt F)) : Prop :=
  (s.mem ((c : Thread nD τ).loc main_v12) = res (XB m) (YB m) c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
  ∧ s.sem (barCell c) = 0

theorem leaving_read (c : Dev nD) (s' : Phys nD τ sig (Elt F)) :
    iprop(leaving m c ∗ SI s') ⊢ (|={Set.univ}=> iprop(⌜Ends m c s'.mem⌝ ∗ SI s') : sProp 𝕄) := by
  have ha := Pipeline.PerCore.arrays_read (pcfgs (F := F)) (adms m) (pdats m) (p := 0) arr_whole0 c
    (fun w => by match w with | 0 => rfl | 1 => rfl | 2 => rfl) ((dat m c).arrAt · (cfg m c).N) s'
  unfold leaving others
  rw [unscopedRestP0_eq]
  iintro ⟨⟨Ha, ⟨Hx, -⟩, -, Hb⟩, HSI⟩
  icombine HSI Hx gives %hx
  icombine HSI Hb gives %hb
  ihave Hr := ha $$ [Ha HSI]
  · isplitl [Ha]; · iexact Ha
    iexact HSI
  icases Hr with ⟨%h, HSI⟩
  imodintro
  isplitr
  · ipureintro
    exact ⟨⟨(h 2).trans (final2 m c), (h 0).trans (final0 m c), (h 1).trans (final1 m c),
      (Buf.eq_of_forall_mem_univ hx).trans ((V1_of m c main_arg2 (by decide)).trans rfl)⟩, by simpa using hb⟩
  iexact HSI

set_option backward.isDefEq.respectTransparency.types false in
/-- The run: from any memory with every counter at zero, every fair execution on the eight devices ends; then the result
array holds on every device the sum of what all devices sent, the arguments are unchanged, and every counter is at zero. -/
theorem run_main : θ_run defs (onTc (τ := τ) (main (F := F))) ⟨m, fun _ => 0, ρ⟩ fun r =>
    (∀ c : Dev nD, r.2.mem ((c : Thread nD τ).loc main_v12) = res (XB m) (YB m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  Pipeline.PerCore.θ_run_regions_kit_sems (pcfgs (F := F)) (adms m) (pdats m) () (stage_inj m) EP defs₀ 𝒱₀ L lv m ρ main (parts m)
    (fun c Q => by
      rewrite [main_chain c, Pipeline.PerCore.Seg.run_eq_chain,
        show (parts m c).map Pipeline.PerCore.Seg.prog = [StableHlo.seq (hostOps0 c), Prog.lift (.customCall (Pipeline.entry 0) ())] from rfl]
      exact .rfl)
    (fun c => by simp only [parts, Pipeline.PerCore.Seg.pipes_host, Pipeline.PerCore.Seg.pipes_region, Pipeline.PerCore.Seg.pipes_nil]; decide)
    (O₀ := owed₀) (hL := L_of_ne) (G := parked) (u₀ := ghost₀ m)
    (hu₀ := by
      unfold ghost₀
      iintro Hu
      ihave H := (ownU_pair _ _) $$ Hu
      icases H with ⟨HP, HX⟩
      imodintro
      isplitl [HP]; · iexact HP
      iapply (Entails.of_eq (parked_eq (F := F)).symm); iexact HX)
    (T₀ := started m) (Tₙ := leaving m)
    (hch := fun c => ⟨.rfl, .rfl, .rfl⟩)
    (hinit := dealing m ρ) (QY := Ends m) (hfin := leaving_read m)
    (hQ := fun s h hs => ⟨fun c => (h c).1, sem_eq_zero hs fun c sm hsm => by
      obtain rfl := unscoped_bar sm hsm
      exact (h c).2⟩)

end Launch

end Cert.RowSums

end

end
-- ==== Proof.Frames.lean ====
/-
# The frames

Each of the three programs runs to its end with its arguments unchanged and every counter at zero. The kernel and the
idealized kernel have the same text, so the kernel's frame is the idealized kernel's run at the machine's floats.
-/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Run

@[expose] public section

noncomputable section

namespace Cert.Proof

open Idealize.ShloMosaic Idealize.SL.Sem

section
variable {F : FTy → Type} [FloatOps F]
attribute [local instance] Cert.Kernel.Gen.facts Cert.KernelIdeal.Gen.facts

/-- The two programs' bodies are the same. -/
theorem bodies_eq : Cert.Kernel.defs₀ (F := F) = Cert.KernelIdeal.defs₀ (F := F) :=
  congrArg Defs.onTc (funext fun l => funext fun a => match l, a with
    | 0, (_, _) => rfl
    | ⟨_ + 1, h⟩, _ => absurd h (Nat.not_lt.2 (Nat.le_add_left _ _)))

/-- So are their tables of bodies and regions. -/
theorem tables_eq : Cert.Kernel.defs (F := F) = Cert.KernelIdeal.defs (F := F) :=
  congrArg (Pipeline.defs (Cert.KernelIdeal.pcfgs (F := F))) bodies_eq

/-- And their main functions. -/
theorem main_eq : Cert.Kernel.main (F := F) = Cert.KernelIdeal.main (F := F) :=
  funext fun c => (Cert.Kernel.Gen.main_chain c).trans ((show _ = _ from rfl).trans (Cert.KernelIdeal.Gen.main_chain c).symm)
end

/-- The kernel runs, its arguments end unchanged, and every counter ends at zero. -/
theorem frame_kernel : Cert.quiescent_Kernel (hKernel := Cert.Kernel.Gen.facts) := fun m ρ _ => by
  rw [tables_eq, main_eq]
  exact (θ_run (Cert.KernelIdeal.defs (F := Bits)) _ _).mono (fun _ h => ⟨fun c => (h.1 c).2, h.2⟩) (Cert.RowSums.run_main (F := Bits) m ρ)
/-- The idealized kernel runs, its arguments end unchanged, and every counter ends at zero. -/
theorem frame_ideal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (Cert.RowSums.run_main (F := Ideal) m ρ)

/-- The reference runs, its arguments end unchanged, and it has no counter. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

end Cert.Proof

end
-- ==== Proof.Rows.lean ====
/-
# The value of a row

What one row of the two operands adds to each row of the result, and the law by which the reference's spelling of the
reciprocal standard deviation is the kernel's.
-/
module

public import Idealize.ShloMosaic.Lib.Pointwise
public import Idealize.ShloMosaic.Lib.IdealHost

@[expose] public section

noncomputable section

namespace Cert.RowSums

open Idealize.ShloMosaic
/-! ## One row -/

section Row
variable (x : Fin 2048 → EReal)

/-- The mean of a row. -/
def mean : EReal := Ideal.div (∑ k, x k) (Ideal.ofBits .f32 0x45000000#32)
/-- The sum of the squared deviations from the mean. -/
def sqDev : EReal := ∑ k, (x k - mean x) * (x k - mean x)
/-- The variance of a row, plus the small constant. -/
def spread : EReal := Ideal.div (sqDev x) (Ideal.ofBits .f32 0x45000000#32) + Ideal.ofBits .f32 0x3727C5AC#32
/-- The normalized entry of column `j`. -/
def norm (j : Fin 2048) : EReal := (x j - mean x) * Ideal.rsqrt (spread x)
/-- What a row `x` of the first operand and the entry `y` of the second in column `j` add to row `k` of the result:
the product of the entry with the normalized entry, or the entry alone. -/
def contrib (k : Fin 2) (j : Fin 2048) (y : EReal) : EReal := if k = 0 then y * norm x j else y

end Row

/-! ## The constants -/

/-- The divisor is 2048. -/
theorem ofBits_2048 : Ideal.ofBits .f32 0x45000000#32 = ((2048 : ℝ) : EReal) := by
  simp [Ideal.ofBits, Ideal.ieee, -EReal.coe_mul]; norm_num

/-- The small constant is positive. -/
theorem ofBits_eps_pos : 0 < Ideal.ofBits .f32 0x3727C5AC#32 := by
  simp [Ideal.ofBits, Ideal.ieee, -EReal.coe_mul]

/-! ## The reciprocal standard deviation -/

/-- A square is not negative, at the infinities too. -/
theorem mul_self_nonneg' (a : EReal) : 0 ≤ a * a := by
  induction a using EReal.rec with
  | bot => simp
  | top => simp
  | coe r => exact_mod_cast mul_self_nonneg r

theorem sqDev_nonneg (x : Fin 2048 → EReal) : 0 ≤ sqDev x :=
  Finset.sum_nonneg fun _ _ => mul_self_nonneg' _

/-- Variance plus the constant is positive, whatever the row. -/
theorem spread_pos (x : Fin 2048 → EReal) : 0 < spread x := by
  have h : 0 ≤ Ideal.div (sqDev x) (Ideal.ofBits .f32 0x45000000#32) := by
    rw [ofBits_2048, Ideal.div, if_neg (by norm_num)]
    exact mul_nonneg (sqDev_nonneg x) (EReal.inv_nonneg_of_nonneg (by norm_num))
  exact lt_of_lt_of_le ofBits_eps_pos (le_add_of_nonneg_left h)

/-- One over the square root is the reciprocal square root, of a positive extended real. -/
theorem one_div_sqrt {v : EReal} (h : 0 < v) : Ideal.div 1 (Ideal.sqrt v) = Ideal.rsqrt v := by
  induction v using EReal.rec with
  | bot => simp at h
  | top => simp [Ideal.div]
  | coe r =>
    have hr : 0 < r := by exact_mod_cast h
    have hs : Real.sqrt r ≠ 0 := (Real.sqrt_pos.2 hr).ne'
    simp [Ideal.div, hr.not_gt, hr.ne', hs, EReal.coe_inv]

end Cert.RowSums

end
-- ==== Proof.Block.lean ====
/-
# The kernel's sums over a block of rows

Each of the kernel's two sums, at a column, is the sum over the rows of the block of what the row adds.
-/
module

public import proofs.«01_k».proof.Proof.Rows
public import proofs.«01_k».proof.Proof.Gen.KernelIdeal.Skeleton

@[expose] public section

noncomputable section

namespace Cert.RowSums

open Idealize.ShloMosaic
open Cert.KernelIdeal Cert.KernelIdeal.Gen

/-- The first sum of a block of 256 rows. -/
theorem pay9_apply (X Y : Vec Ideal S256x2048 .f32) (j : Fin 2048) :
    k0_pay9 X Y (ix2 0 j) = ∑ r : Fin 256, contrib (fun k => X (ix2 r k)) 0 j (Y (ix2 r j)) := by
  pointwise [k0_pay9, k0_pay8]
  simp only [contrib, norm, spread, sqDev, mean, if_true]

/-- The second sum of a block of 256 rows. -/
theorem pay10_apply (X Y : Vec Ideal S256x2048 .f32) (j : Fin 2048) :
    k0_pay10 Y (ix2 0 j) = ∑ r : Fin 256, contrib (fun k => X (ix2 r k)) 1 j (Y (ix2 r j)) := by
  pointwise [k0_pay10, k0_pay8]
  simp [contrib]

/-- The two sums of a block, one above the other. -/
theorem part_apply (X Y : Vec Ideal S256x2048 .f32) (k : Fin 2) (j : Fin 2048) :
    k0_pay1 (k0_pay9 X Y) (k0_pay10 Y) (ix2 k j)
      = ∑ r : Fin 256, contrib (fun l => X (ix2 r l)) k j (Y (ix2 r j)) := by
  fin_cases k
  · refine Eq.trans ?_ (pay9_apply X Y j)
    pointwise [k0_pay1]
  · refine Eq.trans ?_ (pay10_apply X Y j)
    pointwise [k0_pay1]

end Cert.RowSums

end
-- ==== Proof.Total.lean ====
/-
# The sum over all devices

What each device stores at the end, at a row and a column, is the sum over all devices, both points and all rows of
a block of what the row adds.
-/
module

public import proofs.«01_k».proof.Proof.Run
public import proofs.«01_k».proof.Proof.Block

@[expose] public section

noncomputable section

namespace Cert.RowSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## A device and its seven peers are all the devices -/

/-- A value of each device, added in the kernel's order on device `c`, is the sum over all devices. -/
theorem sum_peers (f : Dev nD → EReal) (c : Dev nD) :
    (f c + f (peer 0 c)) + ((f (peer 1 c) + f (peer 2 c)) + (f (peer 3 c) + f (peer 4 c))) + (f (peer 5 c) + f (peer 6 c))
      = ∑ d, f d := by
  have e : ∀ (c : Dev nD), List.Perm [c, peer 0 c, peer 1 c, peer 2 c, peer 3 c, peer 4 c, peer 5 c, peer 6 c]
      (List.finRange 8) := by decide
  have h := ((e c).map f).sum_eq
  rw [← Fin.sum_univ_def] at h
  refine Eq.trans ?_ h
  simp only [List.map_cons, List.map_nil, List.sum_cons, List.sum_nil, add_zero]
  abel

section Values
variable (X Y : Dev nD → Fin 2 → XC (F := Ideal)) (c : Dev nD)

/-- What device `c`'s rows add, at row `k` and column `j` of the result. -/
def added (k : Fin 2) (j : Fin 2048) : EReal :=
  ∑ i : Fin 2, ∑ r : Fin 256, contrib (fun l => X c i (ix2 r l)) k j (Y c i (ix2 r j))

theorem acc₁_apply (k : Fin 2) (j : Fin 2048) : acc₁ X Y c (ix2 k j) = added X Y c k j := by
  unfold acc₁ acc₀
  pointwise [k0_pay3, k0_pay2]
  rw [part_apply, part_apply, added, Fin.sum_univ_two]

theorem sent_apply (k : Fin 2) (j : Fin 2048) : sent X Y c (ix2 k j) = added X Y c k j := by
  unfold sent
  pointwise [k0_pay5]
  exact acc₁_apply X Y c k j

/-- What is read of slot `s` is what the peer `s` sent. -/
theorem got_apply (s : Fin 7) (k : Fin 2) (j : Fin 2048) : got X Y c s (ix3 0 k j) = added X Y (peer s c) k j := by
  refine Eq.trans ?_ (sent_apply X Y (peer s c) k j)
  show landed (sent X Y) c ((slotR s).emb (ix3 0 k j)) = _
  have e : (slotR s).emb (ix3 0 k j) = (Fin.cons s (ix2 k j : S2x2048.Idx) : S7x2x2048.Idx) := by
    funext a
    refine Fin.ext ?_
    match a with
    | ⟨0, _⟩ => exact Nat.add_zero _
    | ⟨1, _⟩ => exact (Nat.zero_add _).trans (Nat.one_mul _)
    | ⟨2, _⟩ => exact (Nat.zero_add _).trans (Nat.one_mul _)
  rw [e]
  rfl

/-- The result is the sum over all devices. -/
theorem res_apply (k : Fin 2) (j : Fin 2048) : (res X Y c (ix2 k j) : EReal) = ∑ d, added X Y d k j := by
  rw [← sum_peers (fun d => added X Y d k j) c]
  unfold res
  pointwise [k0_pay4, k0_pay6, k0_pay7]
  simp only [got_apply, acc₁_apply]
end Values

/-! ## The blocks, in the launch's arrays -/

section Blocks
variable (m : (ℓ : Loc nD τ sig) → Buf (Elt Ideal) ℓ) (c : Dev nD)

/-- Row `r` of the block of point `i` on device `c`, in the device's array. -/
def rowOf (i : Fin 2) (r : Fin 256) : Fin 2048 :=
  ⟨256 * (2 * pair c + i.val) + r.val, by have := pair_lt c; omega⟩

theorem XB_apply (i : Fin 2) (r : Fin 256) (l : Fin 2048) :
    XB m c i (ix2 r l) = m ((c : Thread nD τ).loc main_arg0) (ix2 (rowOf c i r) l) := by
  have h : V1 m c main_arg0 = m ((c : Thread nD τ).loc main_arg0) := (V1_of m c main_arg0 (by decide)).trans rfl
  unfold XB
  rw [h]
  show m ((c : Thread nD τ).loc main_arg0) ((((cfg m c).win 0).blk (pt i)).view.emb (ix2 r l)) = _
  refine congrArg _ ?_
  have hi : ((cfg m c).win 0).index (pt i) = ![pair c * 2 + i.val, 0] :=
    (map0_eq m c (grid0.coords (pt i))).trans (by fin_cases i <;> rfl)
  have e0 : ((cfg m c).win 0).index (pt i) (0 : Fin 2) = pair c * 2 + i.val := congrArg (fun f : Fin 2 → ℕ => f 0) hi
  have e1 : ((cfg m c).win 0).index (pt i) (1 : Fin 2) = 0 := congrArg (fun f : Fin 2 → ℕ => f 1) hi
  funext a; apply Fin.ext
  match a with
  | ⟨0, _⟩ =>
    show ((cfg m c).win 0).index (pt i) (0 : Fin 2) * 256 + 1 * r.val = 256 * (2 * pair c + i.val) + r.val
    omega
  | ⟨1, _⟩ =>
    show ((cfg m c).win 0).index (pt i) (1 : Fin 2) * 2048 + 1 * l.val = l.val
    omega

theorem YB_apply (i : Fin 2) (r : Fin 256) (l : Fin 2048) :
    YB m c i (ix2 r l) = m ((c : Thread nD τ).loc main_arg1) (ix2 (rowOf c i r) l) := by
  have h : V1 m c main_arg1 = m ((c : Thread nD τ).loc main_arg1) := (V1_of m c main_arg1 (by decide)).trans rfl
  unfold YB
  rw [h]
  show m ((c : Thread nD τ).loc main_arg1) ((((cfg m c).win 1).blk (pt i)).view.emb (ix2 r l)) = _
  refine congrArg _ ?_
  have hi : ((cfg m c).win 1).index (pt i) = ![pair c * 2 + i.val, 0] :=
    (map1_eq m c (grid0.coords (pt i))).trans (by fin_cases i <;> rfl)
  have e0 : ((cfg m c).win 1).index (pt i) (0 : Fin 2) = pair c * 2 + i.val := congrArg (fun f : Fin 2 → ℕ => f 0) hi
  have e1 : ((cfg m c).win 1).index (pt i) (1 : Fin 2) = 0 := congrArg (fun f : Fin 2 → ℕ => f 1) hi
  funext a; apply Fin.ext
  match a with
  | ⟨0, _⟩ =>
    show ((cfg m c).win 1).index (pt i) (0 : Fin 2) * 256 + 1 * r.val = 256 * (2 * pair c + i.val) + r.val
    omega
  | ⟨1, _⟩ =>
    show ((cfg m c).win 1).index (pt i) (1 : Fin 2) * 2048 + 1 * l.val = l.val
    omega
end Blocks

/-! ## All rows, once each -/

/-- Row `r` of the block of point `i` on device `d`, in the whole array. -/
def wholeRow (d : Dev nD) (i : Fin 2) (r : Fin 256) : Fin 4096 :=
  ⟨512 * d.val + 256 * i.val + r.val, by have : d.val < 8 := d.isLt; omega⟩

/-- The devices, points and rows of a block number the rows of the whole array, each once. -/
def rowEquiv : (Dev nD × Fin 2) × Fin 256 ≃ Fin 4096 where
  toFun x := wholeRow x.1.1 x.1.2 x.2
  invFun n := ((⟨n.val / 512, by show n.val / 512 < 8; omega⟩, ⟨n.val / 256 % 2, by omega⟩), ⟨n.val % 256, by omega⟩)
  left_inv x := by
    obtain ⟨⟨d, i⟩, r⟩ := x
    refine Prod.ext (Prod.ext ?_ ?_) ?_ <;> apply Fin.ext <;> simp only [wholeRow] <;> omega
  right_inv n := by apply Fin.ext; simp only [wholeRow]; omega

/-- So a sum over all of them is the sum over the rows of the whole array. -/
theorem sum_rows (f : Fin 4096 → EReal) : ∑ d : Dev nD, ∑ i : Fin 2, ∑ r : Fin 256, f (wholeRow d i r) = ∑ n, f n := by
  rw [← Equiv.sum_comp rowEquiv f, Fintype.sum_prod_type, Fintype.sum_prod_type]
  rfl

end Cert.RowSums

end
-- ==== Proof.RefValue.lean ====
/-
# The reference's value

The reference's result, at a row and a column, is the sum over the rows of the whole operands of what the row adds.
-/
module

public import proofs.«01_k».proof.Proof.Rows
public import proofs.«01_k».proof.Proof.Gen.ReferenceIdeal.Run

@[expose] public section

noncomputable section

namespace Cert.RowSums

open Idealize.ShloMosaic
open Cert.ReferenceIdeal Cert.ReferenceIdeal.Gen

/-! ## The reference's result, in steps -/

section Steps
variable (X Y : FVec Ideal S4096x2048 .f32)

/-- The means of the rows. -/
def means : FVec Ideal S4096x1 .f32 :=
  Host.divf (broadcastInDim S4096x1 ![0] bcast_S4096_S4096x1_0
      (Host.reduceAdd X (constant S_ .f32 0x00000000#32) reducesTo_S4096x2048_S4096_d1 h_S_))
    (broadcastInDim S4096x1 ![] bcast_S_S4096x1 (constant S_ .f32 0x45000000#32))

/-- The deviations from the means. -/
def devs : FVec Ideal S4096x2048 .f32 :=
  subf X (broadcastInDim S4096x2048 ![0, 1] bcast_S4096x1_S4096x2048_0_1 (means X))

/-- The count that the variance divides by. -/
def count : FVec Ideal S_ .f32 := subf (constant S_ .f32 0x45000000#32) (sitofp .f32 (constantI S_ 32 0#32))

/-- The variances of the rows: the quotient, kept where the count is positive. -/
def vars : FVec Ideal S4096x1 .f32 :=
  select (broadcastInDim S4096x1 ![] bcast_S_S4096x1 (cmpf .ogt count (constant S_ .f32 0x00000000#32)))
    (Host.divf (broadcastInDim S4096x1 ![0] bcast_S4096_S4096x1_0
        (Host.reduceAdd (mulf (devs X) (devs X)) (constant S_ .f32 0x00000000#32) reducesTo_S4096x2048_S4096_d1 h_S_))
      (broadcastInDim S4096x1 ![] bcast_S_S4096x1 count))
    (broadcastInDim S4096x1 ![] bcast_S_S4096x1 (id (constant S_ .f32 0x7FC00000#32)))

/-- The reciprocal standard deviations of the rows. -/
def rstds : FVec Ideal S4096x1 .f32 :=
  Host.divf (broadcastInDim S4096x1 ![] bcast_S_S4096x1 (constant S_ .f32 0x3F800000#32))
    (Host.sqrt (addf (vars X) (broadcastInDim S4096x1 ![] bcast_S_S4096x1 (constant S_ .f32 0x3727C5AC#32))))

/-- The products that the first sum adds. -/
def prods : FVec Ideal S4096x2048 .f32 :=
  mulf Y (mulf (devs X) (broadcastInDim S4096x2048 ![0, 1] bcast_S4096x1_S4096x2048_0_1 (rstds X)))

/-- The sums of the columns of an array, as one row. -/
def colSums (Z : FVec Ideal S4096x2048 .f32) : FVec Ideal S1x2048 .f32 :=
  broadcastInDim S1x2048 ![1] bcast_S2048_S1x2048_1
    (Host.reduceAdd Z (constant S_ .f32 0x00000000#32) reducesTo_S4096x2048_S2048_d0 h_S_)

/-- The reference's result: the sums of the products over the sums of the second operand. -/
def want : FVec Ideal S2x2048 .f32 :=
  concatenate S2x2048 0 [⟨S1x2048, colSums (prods X Y)⟩, ⟨S1x2048, colSums Y⟩] concatenates_S1x2048_S1x2048_S2x2048_d0

end Steps

/-! ## Read at an index -/

section Read
variable (X Y : FVec Ideal S4096x2048 .f32)

theorem means_apply (r : Fin 4096) : means X (ix2 r 0) = mean (fun k => X (ix2 r k)) := by
  pointwise [means]
  simp only [mean]

theorem devs_apply (r : Fin 4096) (j : Fin 2048) :
    devs X (ix2 r j) = X (ix2 r j) - mean (fun k => X (ix2 r k)) := by
  pointwise [devs]
  rw [means_apply]

theorem vars_apply (r : Fin 4096) :
    vars X (ix2 r 0) = Ideal.div (sqDev (fun k => X (ix2 r k))) (Ideal.ofBits .f32 0x45000000#32) := by
  have h0 : (FloatOps.sitofp .f32 (0#32 : BitVec 32) : Ideal .f32) = (0 : EReal) := by
    show (((0#32 : BitVec 32).toInt : ℝ) : EReal) = 0
    simp
  pointwise [vars, count]
  rw [h0, sub_zero, if_pos (by rw [ofBits_2048]; norm_num)]
  simp only [devs_apply, sqDev]

theorem rstds_apply (r : Fin 4096) : rstds X (ix2 r 0) = Ideal.rsqrt (spread (fun k => X (ix2 r k))) := by
  pointwise [rstds]
  rw [vars_apply, ← one_div_sqrt (spread_pos _), spread]

theorem prods_apply (r : Fin 4096) (j : Fin 2048) :
    prods X Y (ix2 r j) = Y (ix2 r j) * norm (fun k => X (ix2 r k)) j := by
  pointwise [prods]
  rw [devs_apply, rstds_apply, norm]

theorem colSums_apply (Z : FVec Ideal S4096x2048 .f32) (j : Fin 2048) :
    colSums Z (ix2 0 j) = ∑ r : Fin 4096, Z (ix2 r j) := by
  pointwise [colSums]

/-- The reference's result at row `k` and column `j`. -/
theorem want_apply (k : Fin 2) (j : Fin 2048) :
    want X Y (ix2 k j) = ∑ r : Fin 4096, contrib (fun l => X (ix2 r l)) k j (Y (ix2 r j)) := by
  fin_cases k
  · have h : want X Y (ix2 0 j) = colSums (prods X Y) (ix2 0 j) := by pointwise [want]
    refine h.trans ((colSums_apply _ j).trans ?_)
    simp only [prods_apply, contrib, if_true]
    rfl
  · have h : want X Y (ix2 1 j) = colSums Y (ix2 0 j) := by pointwise [want]
    refine h.trans ((colSums_apply _ j).trans ?_)
    simp [contrib]

end Read

end Cert.RowSums

end
-- ==== Proof.Value.lean ====
/-
# The value

Every device's result is the reference's result of the whole operands of which the devices hold blocks.
-/
module

public import proofs.«01_k».proof.Proof.Total
public import proofs.«01_k».proof.Proof.RefValue
public import proofs.«01_k».proof.Defs
public import proofs.«01_k».proof.Proof.Gen.KernelIdeal
public import Idealize.ShloMosaic.Lib.Layout

@[expose] public section

noncomputable section

namespace Cert.RowSums

open Cert.KernelIdeal Cert.KernelIdeal.Gen
open Idealize.ShloMosaic
open Idealize.ShloMosaic.TcCoe
open Idealize.SL.Sem

/-- The block of rows of the whole array that device `c` holds. -/
abbrev rowsOf (c : Dev nD) (A : Cert.ReferenceIdeal.S4096x2048.Idx → EReal) : S2048x2048.Idx → EReal :=
  Layout.blockN ⟨2, ![2048, 2048]⟩ ⟨2, ![4096, 2048]⟩ (Layout.meshBlock [2, 2, 2] ![[0], []] c) A

/-- A device's row of a point's block is the whole array's row of that number. -/
theorem rowsOf_apply (A : Cert.ReferenceIdeal.S4096x2048.Idx → EReal) (c : Dev nD) (i : Fin 2) (r : Fin 256) (l : Fin 2048) :
    rowsOf c A (ix2 (rowOf c i r) l) = A (ix2 (wholeRow c i r) l) := by
  rw [rowsOf, Layout.blockN_apply]
  refine congrArg A ?_
  have e : ∀ c : Dev nD, Layout.meshLin [2, 2, 2] c.val [0] = c.val / 4 := by decide
  have e' : ∀ c : Dev nD, Layout.meshLin [2, 2, 2] c.val [] = 0 := by decide
  funext a; apply Fin.ext
  match a with
  | ⟨0, _⟩ =>
    show Layout.meshLin [2, 2, 2] c.val [0] * 2048 + (256 * (2 * pair c + i.val) + r.val) = 512 * c.val + 256 * i.val + r.val
    have hc : c.val < 8 := c.isLt
    rw [e, pair]
    omega
  | ⟨1, _⟩ =>
    show Layout.meshLin [2, 2, 2] c.val [] * 2048 + l.val = l.val
    rw [e']
    omega

section Value
variable (m : (ℓ : Loc nD τ sig) → Buf (Elt Ideal) ℓ) (A B : Cert.ReferenceIdeal.S4096x2048.Idx → EReal)

variable (hA : ∀ d : Dev nD, m ((d : Thread nD τ).loc main_arg0) = rowsOf d A)
  (hB : ∀ d : Dev nD, m ((d : Thread nD τ).loc main_arg1) = rowsOf d B)
include hA hB

/-- What all the devices' rows add is what all the rows of the whole arrays add. -/
theorem added_eq (k : Fin 2) (j : Fin 2048) :
    (∑ d, added (XB m) (YB m) d k j : EReal) = ∑ n : Fin 4096, contrib (fun l => A (ix2 n l)) k j (B (ix2 n j)) := by
  refine Eq.trans ?_ (sum_rows fun n => contrib (fun l => A (ix2 n l)) k j (B (ix2 n j)))
  refine Finset.sum_congr rfl fun d _ => Finset.sum_congr rfl fun i _ => Finset.sum_congr rfl fun r _ => ?_
  simp only [XB_apply, YB_apply, hA, hB, rowsOf_apply]

/-- Every device's result is the reference's, of the arrays whose blocks the devices hold. -/
theorem res_eq_want (c : Dev nD) : res (XB m) (YB m) c = want A B := by
  refine funext fun (n : S2x2048.Idx) => ?_
  obtain ⟨k, j, rfl⟩ : ∃ (k : Fin 2) (j : Fin 2048), n = ix2 k j :=
    ⟨n 0, n 1, by funext a; match a with | ⟨0, _⟩ => rfl | ⟨1, _⟩ => rfl⟩
  exact (res_apply (XB m) (YB m) c k j).trans ((added_eq m A B hA hB k j).trans (want_apply A B k j).symm)

end Value

end Cert.RowSums

namespace Cert.Proof

open Idealize.ShloMosaic Idealize.SL.Sem

/-- On blocks of the reference's operands every device ends at the reference's result. -/
theorem value :
    Cert.algebraic_KernelIdeal_ReferenceIdeal (hKernelIdeal := Cert.KernelIdeal.Gen.facts)
      (hReferenceIdeal := Cert.ReferenceIdeal.Gen.facts) := by
  intro m g m' g' _ h
  refine ⟨RowSums.want (m' (((0 : Dev Cert.ReferenceIdeal.nD).tc : Thread _ _).loc Cert.ReferenceIdeal.main_arg0))
    (m' (((0 : Dev Cert.ReferenceIdeal.nD).tc : Thread _ _).loc Cert.ReferenceIdeal.main_arg1)), ?_, ?_⟩
  · refine (θ_run _ _ _).mono (fun r hr c => ?_) (RowSums.run_main m g)
    exact ⟨(hr.1 c).1.trans (RowSums.res_eq_want m _ _ (fun d => (h d).1) (fun d => (h d).2.1) c), (hr.1 c).2⟩
  · exact (θ_run _ _ _).mono (fun r hr => hr 0) (Cert.ReferenceIdeal.Value.run m' g')

end Cert.Proof

end
-- ==== Proof.lean ====
/-
# The claims

The proof of `Cert.Claim`: the frames of the kernel, of the idealized kernel and of the reference, each with every
counter back at zero; that the idealized kernel is the kernel's own text; and the equality of results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- Everything that is claimed. -/
theorem claim : Cert.Claim := ⟨Cert.Kernel.Gen.facts, Cert.KernelIdeal.Gen.facts, Cert.ReferenceIdeal.Gen.facts,
  frame_kernel, frame_ideal, frame_reference, trivial, value⟩

end Cert.Proof

end
